-- ==== Defs.lean ====
def Pre_Kernel [hPre_known_words : Cert.Pre_known_words.Facts] (m : (ℓ : Loc Cert.Kernel.nD Cert.Kernel.τ Cert.Kernel.sig) → Buf (Elt Bits) ℓ) : Prop :=
  ∀ c : Dev Cert.Kernel.nD,
    (Cert.Pre_known_words.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_known_words : Cert.Pre_known_words.Facts] (m : (ℓ : Loc Cert.KernelIdeal.nD Cert.KernelIdeal.τ Cert.KernelIdeal.sig) → Buf (Elt Ideal) ℓ) : Prop :=
  ∀ c : Dev Cert.KernelIdeal.nD,
    (Cert.Pre_known_words.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_known_words_finite_weights [hPre_known_words_finite_weights : Cert.Pre_known_words_finite_weights.Facts] (m : (ℓ : Loc Cert.KernelIdeal.nD Cert.KernelIdeal.τ Cert.KernelIdeal.sig) → Buf (Elt Ideal) ℓ) : Prop :=
  ∀ c : Dev Cert.KernelIdeal.nD,
    (Cert.Pre_known_words_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_known_words_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_known_words_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_known_words_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_known_words_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_known_words_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_known_words_finite_weights [hPre_known_words_finite_weights : Cert.Pre_known_words_finite_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_known_words_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_known_words_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_known_words_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_known_words_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_known_words_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_known_words_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def quiescent_Kernel [hKernel : Cert.Kernel.Facts] [hPre_known_words : Cert.Pre_known_words.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_known_words : Cert.Pre_known_words.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_known_words_finite_weights [hKernelIdeal : Cert.KernelIdeal.Facts] [hPre_known_words_finite_weights : Cert.Pre_known_words_finite_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_known_words_finite_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_known_words_finite_weights [hReferenceIdeal : Cert.ReferenceIdeal.Facts] [hPre_known_words_finite_weights : Cert.Pre_known_words_finite_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_known_words_finite_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_known_words_finite_weights [hKernelIdeal : Cert.KernelIdeal.Facts] [hReferenceIdeal : Cert.ReferenceIdeal.Facts] [hPre_known_words_finite_weights : Cert.Pre_known_words_finite_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_known_words_finite_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_known_words : Cert.Pre_known_words.Facts) (hPre_known_words_finite_weights : Cert.Pre_known_words_finite_weights.Facts),
    quiescent_Kernel (hKernel := hKernel) (hPre_known_words := hPre_known_words)
    ∧ quiescent_KernelIdeal (hKernelIdeal := hKernelIdeal) (hPre_known_words := hPre_known_words)
    ∧ quiescent_KernelIdeal_pre_known_words_finite_weights (hKernelIdeal := hKernelIdeal) (hPre_known_words_finite_weights := hPre_known_words_finite_weights)
    ∧ quiescent_ReferenceIdeal (hReferenceIdeal := hReferenceIdeal)
    ∧ quiescent_ReferenceIdeal_pre_known_words_finite_weights (hReferenceIdeal := hReferenceIdeal) (hPre_known_words_finite_weights := hPre_known_words_finite_weights)
    ∧ preserves_Kernel_KernelIdeal
    ∧ algebraic_KernelIdeal_ReferenceIdeal_pre_known_words_finite_weights (hKernelIdeal := hKernelIdeal) (hReferenceIdeal := hReferenceIdeal) (hPre_known_words_finite_weights := hPre_known_words_finite_weights)
-- ==== Pre_known_words.lean ====
abbrev S4 : Shape := ⟨1, ![4]⟩
abbrev S1000000x64 : Shape := ⟨2, ![1000000, 64]⟩
abbrev S256x128 : Shape := ⟨2, ![256, 128]⟩
abbrev S128 : Shape := ⟨1, ![128]⟩
abbrev S128x1000000 : Shape := ⟨2, ![128, 1000000]⟩
abbrev S1000000 : Shape := ⟨1, ![1000000]⟩
abbrev S_ : Shape := ⟨0, ![]⟩

class Facts : Prop where
  bcast_S_S4 : S_.BroadcastsInDim S4 (![] : Fin 0 → Fin S4.rank)

variable [Facts]

def fn {F : FTy → Type} [FloatOps F] (main_arg0 : IVec S4 32) (main_arg1 : FVec F S1000000x64 .f32) (main_arg2 : FVec F S256x128 .f32) (main_arg3 : FVec F S128 .f32) (main_arg4 : FVec F S128x1000000 .f32) (main_arg5 : FVec F S1000000 .f32) : IVec S4 1 :=
  let main_c : IVec S_ 32 := constantI S_ 32 0#32
  let main_v0 : IVec S4 32 := broadcastInDim S4 ![] bcast_S_S4 main_c
  let main_v1 : IVec S4 1 := cmpi .sge main_arg0 main_v0
  let main_c_0 : IVec S_ 32 := constantI S_ 32 1000000#32
  let main_v2 : IVec S4 32 := broadcastInDim S4 ![] bcast_S_S4 main_c_0
  let main_v3 : IVec S4 1 := cmpi .slt main_arg0 main_v2
  let main_v4 : IVec S4 1 := andi main_v1 main_v3
  main_v4
-- ==== Pre_known_words_finite_weights.lean ====
abbrev S4 : Shape := ⟨1, ![4]⟩
abbrev S1000000x64 : Shape := ⟨2, ![1000000, 64]⟩
abbrev S256x128 : Shape := ⟨2, ![256, 128]⟩
abbrev S128 : Shape := ⟨1, ![128]⟩
abbrev S128x1000000 : Shape := ⟨2, ![128, 1000000]⟩
abbrev S1000000 : Shape := ⟨1, ![1000000]⟩
abbrev S_ : Shape := ⟨0, ![]⟩

class Facts : Prop where
  bcast_S_S4 : S_.BroadcastsInDim S4 (![] : Fin 0 → Fin S4.rank)
  bcast_S_S1000000x64 : S_.BroadcastsInDim S1000000x64 (![] : Fin 0 → Fin S1000000x64.rank)
  bcast_S_S256x128 : S_.BroadcastsInDim S256x128 (![] : Fin 0 → Fin S256x128.rank)
  bcast_S_S128 : S_.BroadcastsInDim S128 (![] : Fin 0 → Fin S128.rank)
  bcast_S_S128x1000000 : S_.BroadcastsInDim S128x1000000 (![] : Fin 0 → Fin S128x1000000.rank)
  bcast_S_S1000000 : S_.BroadcastsInDim S1000000 (![] : Fin 0 → Fin S1000000.rank)

variable [Facts]

def fn_part1 {F : FTy → Type} [FloatOps F] (main_arg3 : FVec F S128 .f32) (main_arg4 : FVec F S128x1000000 .f32) (main_arg5 : FVec F S1000000 .f32) (main_v4 : IVec S4 1) (main_v9 : IVec S1000000x64 1) (main_v14 : IVec S256x128 1) (main_v16 : IVec S128 1) : IVec S4 1 × IVec S1000000x64 1 × IVec S256x128 1 × IVec S128 1 × IVec S128x1000000 1 × IVec S1000000 1 :=
  let main_cst_5 : FVec F S_ .f32 := constant S_ .f32 0x7F800000#32
  let main_v17 : FVec F S128 .f32 := broadcastInDim S128 ![] bcast_S_S128 main_cst_5
  let main_v18 : IVec S128 1 := cmpf .olt main_arg3 main_v17
  let main_v19 : IVec S128 1 := andi main_v16 main_v18
  let main_cst_6 : FVec F S_ .f32 := constant S_ .f32 0xFF800000#32
  let main_v20 : FVec F S128x1000000 .f32 := broadcastInDim S128x1000000 ![] bcast_S_S128x1000000 main_cst_6
  let main_v21 : IVec S128x1000000 1 := cmpf .ogt main_arg4 main_v20
  let main_cst_7 : FVec F S_ .f32 := constant S_ .f32 0x7F800000#32
  let main_v22 : FVec F S128x1000000 .f32 := broadcastInDim S128x1000000 ![] bcast_S_S128x1000000 main_cst_7
  let main_v23 : IVec S128x1000000 1 := cmpf .olt main_arg4 main_v22
  let main_v24 : IVec S128x1000000 1 := andi main_v21 main_v23
  let main_cst_8 : FVec F S_ .f32 := constant S_ .f32 0xFF800000#32
  let main_v25 : FVec F S1000000 .f32 := broadcastInDim S1000000 ![] bcast_S_S1000000 main_cst_8
  let main_v26 : IVec S1000000 1 := cmpf .ogt main_arg5 main_v25
  let main_cst_9 : FVec F S_ .f32 := constant S_ .f32 0x7F800000#32
  let main_v27 : FVec F S1000000 .f32 := broadcastInDim S1000000 ![] bcast_S_S1000000 main_cst_9
  let main_v28 : IVec S1000000 1 := cmpf .olt main_arg5 main_v27
  let main_v29 : IVec S1000000 1 := andi main_v26 main_v28
  (main_v4, main_v9, main_v14, main_v19, main_v24, main_v29)

def fn {F : FTy → Type} [FloatOps F] (main_arg0 : IVec S4 32) (main_arg1 : FVec F S1000000x64 .f32) (main_arg2 : FVec F S256x128 .f32) (main_arg3 : FVec F S128 .f32) (main_arg4 : FVec F S128x1000000 .f32) (main_arg5 : FVec F S1000000 .f32) : IVec S4 1 × IVec S1000000x64 1 × IVec S256x128 1 × IVec S128 1 × IVec S128x1000000 1 × IVec S1000000 1 :=
  let main_c : IVec S_ 32 := constantI S_ 32 0#32
  let main_v0 : IVec S4 32 := broadcastInDim S4 ![] bcast_S_S4 main_c
  let main_v1 : IVec S4 1 := cmpi .sge main_arg0 main_v0
  let main_c_0 : IVec S_ 32 := constantI S_ 32 1000000#32
  let main_v2 : IVec S4 32 := broadcastInDim S4 ![] bcast_S_S4 main_c_0
  let main_v3 : IVec S4 1 := cmpi .slt main_arg0 main_v2
  let main_v4 : IVec S4 1 := andi main_v1 main_v3
  let main_cst : FVec F S_ .f32 := constant S_ .f32 0xFF800000#32
  let main_v5 : FVec F S1000000x64 .f32 := broadcastInDim S1000000x64 ![] bcast_S_S1000000x64 main_cst
  let main_v6 : IVec S1000000x64 1 := cmpf .ogt main_arg1 main_v5
  let main_cst_1 : FVec F S_ .f32 := constant S_ .f32 0x7F800000#32
  let main_v7 : FVec F S1000000x64 .f32 := broadcastInDim S1000000x64 ![] bcast_S_S1000000x64 main_cst_1
  let main_v8 : IVec S1000000x64 1 := cmpf .olt main_arg1 main_v7
  let main_v9 : IVec S1000000x64 1 := andi main_v6 main_v8
  let main_cst_2 : FVec F S_ .f32 := constant S_ .f32 0xFF800000#32
  let main_v10 : FVec F S256x128 .f32 := broadcastInDim S256x128 ![] bcast_S_S256x128 main_cst_2
  let main_v11 : IVec S256x128 1 := cmpf .ogt main_arg2 main_v10
  let main_cst_3 : FVec F S_ .f32 := constant S_ .f32 0x7F800000#32
  let main_v12 : FVec F S256x128 .f32 := broadcastInDim S256x128 ![] bcast_S_S256x128 main_cst_3
  let main_v13 : IVec S256x128 1 := cmpf .olt main_arg2 main_v12
  let main_v14 : IVec S256x128 1 := andi main_v11 main_v13
  let main_cst_4 : FVec F S_ .f32 := constant S_ .f32 0xFF800000#32
  let main_v15 : FVec F S128 .f32 := broadcastInDim S128 ![] bcast_S_S128 main_cst_4
  let main_v16 : IVec S128 1 := cmpf .ogt main_arg3 main_v15
  fn_part1 (F := F) main_arg3 main_arg4 main_arg5 main_v4 main_v9 main_v14 main_v16
-- ==== Kernel.lean ====
abbrev S4 : Shape := ⟨1, ![4]⟩
abbrev S1000000x64 : Shape := ⟨2, ![1000000, 64]⟩
abbrev S256x128 : Shape := ⟨2, ![256, 128]⟩
abbrev S128 : Shape := ⟨1, ![128]⟩
abbrev S128x1000000 : Shape := ⟨2, ![128, 1000000]⟩
abbrev S1000000 : Shape := ⟨1, ![1000000]⟩
abbrev S64x1000000 : Shape := ⟨2, ![64, 1000000]⟩
abbrev S_ : Shape := ⟨0, ![]⟩
abbrev S64x1000064 : Shape := ⟨2, ![64, 1000064]⟩
abbrev S1000000x128 : Shape := ⟨2, ![1000000, 128]⟩
abbrev S4x64x128 : Shape := ⟨3, ![4, 64, 128]⟩
abbrev S1x128 : Shape := ⟨2, ![1, 128]⟩
abbrev S1x1000000 : Shape := ⟨2, ![1, 1000000]⟩
abbrev S8x128 : Shape := ⟨2, ![8, 128]⟩
abbrev S64x128 : Shape := ⟨2, ![64, 128]⟩
abbrev S1 : Shape := ⟨1, ![1]⟩
abbrev S32768x128 : Shape := ⟨2, ![32768, 128]⟩
abbrev S1x32768 : Shape := ⟨2, ![1, 32768]⟩
abbrev S64 : Shape := ⟨1, ![64]⟩
abbrev S64x1 : Shape := ⟨2, ![64, 1]⟩
abbrev S1x64x128 : Shape := ⟨3, ![1, 64, 128]⟩
abbrev S1x1x32768 : Shape := ⟨3, ![1, 1, 32768]⟩
abbrev S1x1x1 : Shape := ⟨3, ![1, 1, 1]⟩
abbrev S1x1x128 : Shape := ⟨3, ![1, 1, 128]⟩

abbrev nBuf : Space → Nat
  | .hbm => 16
  | .vmem => 18
  | .smem => 1
  | _ => 0

abbrev bufTy : (tb : Table) → Fin (tcTables nBuf tb) → BufTy
  | .hbm, ⟨0, _⟩ => ⟨S1000000x64, .f32⟩
  | .hbm, ⟨1, _⟩ => ⟨S256x128, .f32⟩
  | .hbm, ⟨2, _⟩ => ⟨S128, .f32⟩
  | .hbm, ⟨3, _⟩ => ⟨S128x1000000, .f32⟩
  | .hbm, ⟨4, _⟩ => ⟨S1000000, .f32⟩
  | .hbm, ⟨5, _⟩ => ⟨S64x1000000, .f32⟩
  | .hbm, ⟨6, _⟩ => ⟨S_, .i32⟩
  | .hbm, ⟨7, _⟩ => ⟨S_, .f32⟩
  | .hbm, ⟨8, _⟩ => ⟨S64x1000064, .f32⟩
  | .hbm, ⟨9, _⟩ => ⟨S1000000x128, .f32⟩
  | .hbm, ⟨10, _⟩ => ⟨S4x64x128, .f32⟩
  | .hbm, ⟨11, _⟩ => ⟨S1x128, .f32⟩
  | .hbm, ⟨12, _⟩ => ⟨S1x1000000, .f32⟩
  | .hbm, ⟨13, _⟩ => ⟨S1x1000000, .f32⟩
  | .hbm, ⟨14, _⟩ => ⟨S8x128, .f32⟩
  | .hbm, ⟨15, _⟩ => ⟨S1x1000000, .f32⟩
  | .local _ .vmem, ⟨0, _⟩ => ⟨S64x128, .f32⟩
  | .local _ .vmem, ⟨1, _⟩ => ⟨S64x128, .f32⟩
  | .local _ .vmem, ⟨2, _⟩ => ⟨S64x128, .f32⟩
  | .local _ .vmem, ⟨3, _⟩ => ⟨S64x128, .f32⟩
  | .local _ .vmem, ⟨4, _⟩ => ⟨S4x64x128, .f32⟩
  | .local _ .vmem, ⟨5, _⟩ => ⟨S1x128, .f32⟩
  | .local _ .vmem, ⟨6, _⟩ => ⟨S32768x128, .f32⟩
  | .local _ .vmem, ⟨7, _⟩ => ⟨S32768x128, .f32⟩
  | .local _ .vmem, ⟨8, _⟩ => ⟨S1x32768, .f32⟩
  | .local _ .vmem, ⟨9, _⟩ => ⟨S1x32768, .f32⟩
  | .local _ .vmem, ⟨10, _⟩ => ⟨S1x32768, .f32⟩
  | .local _ .vmem, ⟨11, _⟩ => ⟨S1x32768, .f32⟩
  | .local _ .vmem, ⟨12, _⟩ => ⟨S8x128, .f32⟩
  | .local _ .vmem, ⟨13, _⟩ => ⟨S8x128, .f32⟩
  | .local _ .vmem, ⟨14, _⟩ => ⟨S8x128, .f32⟩
  | .local _ .vmem, ⟨15, _⟩ => ⟨S8x128, .f32⟩
  | .local _ .vmem, ⟨16, _⟩ => ⟨S1x1000000, .f32⟩
  | .local _ .vmem, ⟨17, _⟩ => ⟨S1x1000000, .f32⟩
  | .local _ .smem, ⟨0, _⟩ => ⟨S4, .i32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v7 : Ref sig .tc := ⟨.hbm, 15, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_scratch0 : Ref sig .tc := ⟨.vmem, 13, rfl⟩
abbrev cc0_scratch1 : Ref sig .tc := ⟨.vmem, 14, rfl⟩
abbrev cc1_stg0_0 : Ref sig .tc := ⟨.vmem, 15, rfl⟩
abbrev cc1_stg1_0 : Ref sig .tc := ⟨.vmem, 16, rfl⟩
abbrev cc1_stg2_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc1_sem0_0 : DmaSem sig := 13
abbrev cc1_sem1_0 : DmaSem sig := 14
abbrev cc1_sem2_0 : DmaSem sig := 15

abbrev nD : Nat := 1
abbrev τ : Topo := Topo.v7x

variable {F : FTy → Type} [FloatOps F]

abbrev grid0 : Pipeline.Grid := ⟨1, ![31], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond2 (i : grid0.Coords) : BitVec 1 :=
  let arg0 : BitVec 32 := BitVec.ofNat 32 (i 0).val
  let c30_i32 : BitVec 32 := 30#32
  let v52 : BitVec 1 := Scalar.cmpi .eq arg0 c30_i32
  let v53 : BitVec 32 := Scalar.extui v52
  let c0_i32_19 : BitVec 32 := 0#32
  let v54 : BitVec 1 := Scalar.cmpi .ne v53 c0_i32_19
  v54

def cc0_transform_0 (inb_S4_S1_0 : ∀ a, (![0] : Fin 1 → Nat) a + S1.size a ≤ S4.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S4) ![0] S1.size inb_S4_S1_0) numel1_S1
  let c128_i32 : BitVec 32 := 128#32
  let v1 : BitVec 32 := Scalar.divsi v0 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![c0_i32_4.toNat, v17.toNat]

def cc0_transform_1 (inb_S4_S1_1 : ∀ a, (![1] : Fin 1 → Nat) a + S1.size a ≤ S4.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S4) ![1] S1.size inb_S4_S1_1) numel1_S1
  let c128_i32 : BitVec 32 := 128#32
  let v1 : BitVec 32 := Scalar.divsi v0 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![c0_i32_4.toNat, v17.toNat]

def cc0_transform_2 (inb_S4_S1_2 : ∀ a, (![2] : Fin 1 → Nat) a + S1.size a ≤ S4.size a) (numel1_S1 : S1.numel = 1) (pf : pre0.Contents (Elt F)) (i : grid0.Coords) : Fin 2 → Nat :=
  let arg0 : BitVec 32 := BitVec.ofNat 32 (i 0).val
  let c2 : Index := 2#32
  let v0 : BitVec 32 := pf.at 0 (Rect.unit (s := S4) ![2] S1.size inb_S4_S1_2) numel1_S1
  let c128_i32 : BitVec 32 := 128#32
  let v1 : BitVec 32 := Scalar.divsi v0 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![c0_i32_4.toNat, v17.toNat]

def cc0_transform_3 (inb_S4_S1_3 : ∀ a, (![3] : Fin 1 → Nat) a + S1.size a ≤ S4.size a) (numel1_S1 : S1.numel = 1) (pf : pre0.Contents (Elt F)) (i : grid0.Coords) : Fin 2 → Nat :=
  let arg0 : BitVec 32 := BitVec.ofNat 32 (i 0).val
  let c3 : Index := 3#32
  let v0 : BitVec 32 := pf.at 0 (Rect.unit (s := S4) ![3] S1.size inb_S4_S1_3) numel1_S1
  let c128_i32 : BitVec 32 := 128#32
  let v1 : BitVec 32 := Scalar.divsi v0 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![c0_i32_4.toNat, v17.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32768x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x32768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x32768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := .none

abbrev stage1_0 : Fin 1 → Memref sig .tc .vmem S8x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x1000000 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x1000000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
-- ==== ReferenceIdeal.lean ====
abbrev S4 : Shape := ⟨1, ![4]⟩
abbrev S1000000x64 : Shape := ⟨2, ![1000000, 64]⟩
abbrev S256x128 : Shape := ⟨2, ![256, 128]⟩
abbrev S128 : Shape := ⟨1, ![128]⟩
abbrev S128x1000000 : Shape := ⟨2, ![128, 1000000]⟩
abbrev S1000000 : Shape := ⟨1, ![1000000]⟩
abbrev S_ : Shape := ⟨0, ![]⟩
abbrev S4x1 : Shape := ⟨2, ![4, 1]⟩
abbrev S1 : Shape := ⟨1, ![1]⟩
abbrev S1x1 : Shape := ⟨2, ![1, 1]⟩
abbrev S4x64 : Shape := ⟨2, ![4, 64]⟩
abbrev S1x256 : Shape := ⟨2, ![1, 256]⟩
abbrev S1x128 : Shape := ⟨2, ![1, 128]⟩
abbrev S1x1000000 : Shape := ⟨2, ![1, 1000000]⟩

abbrev nBuf : Space → Nat
  | .hbm => 54
  | .vmem => 0
  | .smem => 0
  | _ => 0

abbrev bufTy : (tb : Table) → Fin (tcTables nBuf tb) → BufTy
  | .hbm, ⟨0, _⟩ => ⟨S4, .i32⟩
  | .hbm, ⟨1, _⟩ => ⟨S1000000x64, .f32⟩
  | .hbm, ⟨2, _⟩ => ⟨S256x128, .f32⟩
  | .hbm, ⟨3, _⟩ => ⟨S128, .f32⟩
  | .hbm, ⟨4, _⟩ => ⟨S128x1000000, .f32⟩
  | .hbm, ⟨5, _⟩ => ⟨S1000000, .f32⟩
  | .hbm, ⟨6, _⟩ => ⟨S_, .i32⟩
  | .hbm, ⟨7, _⟩ => ⟨S4, .i32⟩
  | .hbm, ⟨8, _⟩ => ⟨S4, .i1⟩
  | .hbm, ⟨9, _⟩ => ⟨S_, .i32⟩
  | .hbm, ⟨10, _⟩ => ⟨S4, .i32⟩
  | .hbm, ⟨11, _⟩ => ⟨S4, .i32⟩
  | .hbm, ⟨12, _⟩ => ⟨S4, .i32⟩
  | .hbm, ⟨13, _⟩ => ⟨S4x1, .i32⟩
  | .hbm, ⟨14, _⟩ => ⟨S1, .i32⟩
  | .hbm, ⟨15, _⟩ => ⟨S_, .i32⟩
  | .hbm, ⟨16, _⟩ => ⟨S4x1, .i32⟩
  | .hbm, ⟨17, _⟩ => ⟨S4x1, .i1⟩
  | .hbm, ⟨18, _⟩ => ⟨S1x1, .i32⟩
  | .hbm, ⟨19, _⟩ => ⟨S4x1, .i32⟩
  | .hbm, ⟨20, _⟩ => ⟨S4x1, .i1⟩
  | .hbm, ⟨21, _⟩ => ⟨S4x1, .i1⟩
  | .hbm, ⟨22, _⟩ => ⟨S_, .i1⟩
  | .hbm, ⟨23, _⟩ => ⟨S4, .i1⟩
  | .hbm, ⟨24, _⟩ => ⟨S4x64, .f32⟩
  | .hbm, ⟨25, _⟩ => ⟨S4x64, .i1⟩
  | .hbm, ⟨26, _⟩ => ⟨S_, .f32⟩
  | .hbm, ⟨27, _⟩ => ⟨S4x64, .f32⟩
  | .hbm, ⟨28, _⟩ => ⟨S4x64, .f32⟩
  | .hbm, ⟨29, _⟩ => ⟨S1x256, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S_, .f32⟩
  | .hbm, ⟨34, _⟩ => ⟨S1x128, .f32⟩
  | .hbm, ⟨35, _⟩ => ⟨S1x128, .f32⟩
  | .hbm, ⟨36, _⟩ => ⟨S1x1000000, .f32⟩
  | .hbm, ⟨37, _⟩ => ⟨S1x1000000, .f32⟩
  | .hbm, ⟨38, _⟩ => ⟨S1x1000000, .f32⟩
  | .hbm, ⟨39, _⟩ => ⟨S_, .f32⟩
  | .hbm, ⟨40, _⟩ => ⟨S1, .f32⟩
  | .hbm, ⟨41, _⟩ => ⟨S_, .f32⟩
  | .hbm, ⟨42, _⟩ => ⟨S1, .f32⟩
  | .hbm, ⟨43, _⟩ => ⟨S1, .f32⟩
  | .hbm, ⟨44, _⟩ => ⟨S1x1, .f32⟩
  | .hbm, ⟨45, _⟩ => ⟨S1x1000000, .f32⟩
  | .hbm, ⟨46, _⟩ => ⟨S1x1000000, .f32⟩
  | .hbm, ⟨47, _⟩ => ⟨S1x1000000, .f32⟩
  | .hbm, ⟨48, _⟩ => ⟨S_, .f32⟩
  | .hbm, ⟨49, _⟩ => ⟨S1, .f32⟩
  | .hbm, ⟨50, _⟩ => ⟨S1x1, .f32⟩
  | .hbm, ⟨51, _⟩ => ⟨S1x1, .f32⟩
  | .hbm, ⟨52, _⟩ => ⟨S1x1000000, .f32⟩
  | .hbm, ⟨53, _⟩ => ⟨S1x1000000, .f32⟩
  | _, _ => ⟨S4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_cst : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_call1_cst : Ref sig .tc := ⟨.hbm, 39, rfl⟩
abbrev main_call1_v0 : Ref sig .tc := ⟨.hbm, 40, rfl⟩
abbrev main_call1_cst_0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_cst_1 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_v10 : Ref sig .tc := ⟨.hbm, 53, rfl⟩

abbrev nD : Nat := 1
abbrev τ : Topo := Topo.v7x

variable {F : FTy → Type} [FloatOps F]
-- ==== Proof.Body.lean ====
module

public import proofs.«01_k».proof.Proof.Gen.KernelIdeal.Launch
public import proofs.«01_k».proof.Proof.Gen.KernelIdeal.Skeleton
public import Idealize.ShloMosaic.Lib.Tactic
public import Idealize.ShloMosaic.Lib.Pipeline.FrameBody
public import Idealize.ShloMosaic.Lib.Pipeline.Value
public import Idealize.ShloMosaic.Lib.VecWindow
public import Idealize.ShloMosaic.Lib.Tactic.Stretches

@[expose] public section

noncomputable section

namespace Cert.Pass1

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable {U : Type} [URA U]

/-! ## The two rows of an [8, 128] buffer that the body reads and writes -/

abbrev rect0 : Rect S8x128 := Rect.unit (s := S8x128) ![0, 0] S1x128.size inb_S8x128_S1x128_0_0
abbrev rect1 : Rect S8x128 := Rect.unit (s := S8x128) ![1, 0] S1x128.size inb_S8x128_S1x128_1_0
/-- Row 0 and row 1 of an [8, 128] buffer. -/
abbrev row0 {α : EltTy → Type} {e : EltTy} (X : S8x128.Idx → α e) : S1x128.Idx → α e := View.ld X rect0
abbrev row1 {α : EltTy → Type} {e : EltTy} (X : S8x128.Idx → α e) : S1x128.Idx → α e := View.ld X rect1

/-! ## What the body computes -/

abbrev Row (F : FTy → Type) : Type := Vec F S1x128 .f32

/-- The four words' slots of the scalar table. -/
abbrev slot4 (k : Fin 4) : S4.Idx := fun a => ⟨k.val, by obtain rfl : a = 0 := Subsingleton.elim _ _; exact k.isLt⟩
/-- Context slot `k`'s [1, 64, 128] slice of the first layer's weights. -/
abbrev slice4 (off : Fin 3 → ℕ) (h : ∀ a, off a + S1x64x128.size a ≤ S4x64x128.size a) (W : Vec F S4x64x128 .f32) : Vec F S1x64x128 .f32 :=
  View.ld W (Rect.unit (s := S4x64x128) off S1x64x128.size h)

/-- The hidden row that the first point computes. -/
def hidden (T : IVec S4 32) (X2 X3 X4 X5 : Vec F S64x128 .f32) (W : Vec F S4x64x128 .f32) (b : Row F) : Row F :=
  have v55 : IVec S64x128 32 := iota .tc S64x128 32 [1] iota_S64x128_d1_w32
  have v84 : BitVec 32 := Scalar.remsi (T (slot4 1)) 128#32
  have v89 : BitVec 1 := Scalar.andi (Scalar.xori (Scalar.cmpi .slt v84 0#32) 0#1) (Scalar.cmpi .ne v84 0#32)
  have v80 : Row F := k0_pay4 b (T (slot4 0)) X2 (slice4 ![0, 0, 0] inb_S4x64x128_S1x64x128_0_0_0 W)
  have v126 : Row F := k0_pay5 v55 v80 v84 v89 (Scalar.addi v84 128#32) X3 (slice4 ![1, 0, 0] inb_S4x64x128_S1x64x128_1_0_0 W)
    (T (slot4 2)) X4 (slice4 ![2, 0, 0] inb_S4x64x128_S1x64x128_2_0_0 W)
  k0_pay6 v55 v126 (T (slot4 3)) X5 (slice4 ![3, 0, 0] inb_S4x64x128_S1x64x128_3_0_0 W)

/-- The running maximum after a point, from the one before it. -/
def nextMax (i : grid0.Coords) (h : Row F) (w2 : Vec F S32768x128 .f32) (b2 : Vec F S1x32768 .f32) (m : Row F) : Row F := k0_pay14 i h w2 b2 m
/-- The running sum after a point. -/
def nextSum (i : grid0.Coords) (h : Row F) (w2 : Vec F S32768x128 .f32) (b2 : Vec F S1x32768 .f32) (m s : Row F) : Row F :=
  k0_pay1 (k0_pay12 i h w2 b2) (k0_pay13 i h w2 b2) s (k0_pay14 i h w2 b2 m) (k0_pay15 i h w2 b2 m)

/-- The condition of the body's first branch: the point is the grid's first. -/
abbrev atFirst (i : grid0.Coords) : Prop := Scalar.cmpi .ne (Scalar.extui (Scalar.cmpi .eq (BitVec.ofNat 32 (i 0).val) 0#32)) 0#32 = 1#1

/-- What the body leaves in the two scratch buffers and the two results, of the hidden row `h`, the running maximum `m` and the running
    sum `s` that its second part works on. -/
structure Left (i : grid0.Coords) (w2 : Vec F S32768x128 .f32) (b2 : Vec F S1x32768 .f32) (h m s : Row F)
    (Y10 : Vec F S1x32768 .f32) (Y11 Y12 Y13 : Vec F S8x128 .f32) : Prop where
  hid : row0 Y12 = h
  mx : row0 Y13 = nextMax i h w2 b2 m
  sm : row1 Y13 = nextSum i h w2 b2 m s
  logits : Y10 = k0_pay10 h w2 b2
  stats : k0_cond2 i = 1#1 → row0 Y11 = nextMax i h w2 b2 m ∧ row1 Y11 = nextSum i h w2 b2 m s

/-- Rows 0 and 1 after the two rows' writes. -/
theorem row0_writes {sig' : RefSig} {κ : Kind} {sp : Space} {e : EltTy} (v : View sig' κ sp S8x128 e) (f : v.ty.Contents (Elt F))
    (p : rect1.shape.Idx → Elt F e) (q : rect0.shape.Idx → Elt F e) (L : List (View.Piece (Elt F) S8x128 e)) :
    row0 (v.read (Elt F) (v.writes (Elt F) f (⟨rect1, p⟩ :: ⟨rect0, q⟩ :: L))) = q := by
  funext j
  refine (View.read_writes_cons_miss_of_axis v f ⟨rect1, p⟩ _ _ (0 : Fin 2) 1 1 rfl rfl rfl (Or.inl ?_)).trans
    (View.read_writes_cons_hit_of_coords v f rect0 q L j _ fun a => rfl)
  have hj : (j (0 : Fin 2)).val < 1 := (j (0 : Fin 2)).isLt
  change 0 + 1 * (j (0 : Fin 2)).val < 1
  omega
theorem row1_writes {sig' : RefSig} {κ : Kind} {sp : Space} {e : EltTy} (v : View sig' κ sp S8x128 e) (f : v.ty.Contents (Elt F))
    (p : rect1.shape.Idx → Elt F e) (L : List (View.Piece (Elt F) S8x128 e)) :
    row1 (v.read (Elt F) (v.writes (Elt F) f (⟨rect1, p⟩ :: L))) = p := by
  funext j
  exact View.read_writes_cons_hit_of_coords v f rect1 p L j _ fun a => rfl

/-- What a run reads back of rows it has written. -/
theorem readCov_row0 {sig' : RefSig} {κ : Kind} {sp : Space} {e : EltTy} (v : View sig' κ sp S8x128 e)
    (q : rect0.shape.Idx → Elt F e) (L : List (View.Piece (Elt F) S8x128 e)) :
    v.readCov (⟨rect0, q⟩ :: L) rect0.toLoadRect = q := by
  funext j
  exact View.read_writes_cons_hit_of_coords v _ rect0 q L j _ fun a => rfl
theorem readCov_row01 {sig' : RefSig} {κ : Kind} {sp : Space} {e : EltTy} (v : View sig' κ sp S8x128 e)
    (p : rect1.shape.Idx → Elt F e) (q : rect0.shape.Idx → Elt F e) (L : List (View.Piece (Elt F) S8x128 e)) :
    v.readCov (⟨rect1, p⟩ :: ⟨rect0, q⟩ :: L) rect0.toLoadRect = q :=
  row0_writes v _ p q L
theorem readCov_row1 {sig' : RefSig} {κ : Kind} {sp : Space} {e : EltTy} (v : View sig' κ sp S8x128 e)
    (p : rect1.shape.Idx → Elt F e) (L : List (View.Piece (Elt F) S8x128 e)) :
    v.readCov (⟨rect1, p⟩ :: L) rect1.toLoadRect = p :=
  row1_writes v _ p L

/-- A word load of the table reads its word. -/
theorem readAt_word {sig' : RefSig} {κ : Kind} {sp : Space} (v : View sig' κ sp S4 .i32) (f : v.ty.Contents (Elt F)) (k : Fin 4)
    (inb : ∀ a, (![k.val] : Fin 1 → ℕ) a + S1.size a ≤ S4.size a) (h : 0 < (Rect.unit (s := S4) ![k.val] S1.size inb).shape.numel) :
    v.readAt (Elt F) (Rect.unit (s := S4) ![k.val] S1.size inb).toLoadRect f (Shape.Idx.first h) = v.read (Elt F) f (slot4 k) := by
  refine congrArg (v.read (Elt F) f) (funext fun a => Fin.ext ?_)
  obtain rfl : a = 0 := Subsingleton.elim _ _
  show k.val + 1 * 0 = k.val
  omega

set_option maxHeartbeats 4000000 in
/-- The body of the first region, run once. -/
theorem pass1_body (c : Dev nD) (E : Set ℕ) (i : grid0.Coords)
    (a1 : Memref sig .tc .smem S4 .i32) (h1 : a1.IsWhole) (a2 : Memref sig .tc .vmem S64x128 .f32) (h2 : a2.IsWhole)
    (a3 : Memref sig .tc .vmem S64x128 .f32) (h3 : a3.IsWhole) (a4 : Memref sig .tc .vmem S64x128 .f32) (h4 : a4.IsWhole)
    (a5 : Memref sig .tc .vmem S64x128 .f32) (h5 : a5.IsWhole) (a6 : Memref sig .tc .vmem S4x64x128 .f32) (h6 : a6.IsWhole)
    (a7 : Memref sig .tc .vmem S1x128 .f32) (h7 : a7.IsWhole) (a8 : Memref sig .tc .vmem S32768x128 .f32) (h8 : a8.IsWhole)
    (a9 : Memref sig .tc .vmem S1x32768 .f32) (h9 : a9.IsWhole) (a10 : Memref sig .tc .vmem S1x32768 .f32) (h10 : a10.IsWhole)
    (a11 : Memref sig .tc .vmem S8x128 .f32) (h11 : a11.IsWhole) (a12 : Memref sig .tc .vmem S8x128 .f32) (h12 : a12.IsWhole)
    (a13 : Memref sig .tc .vmem S8x128 .f32) (h13 : a13.IsWhole)
    (T : IVec S4 32) (X2 X3 X4 X5 : Vec F S64x128 .f32) (X6 : Vec F S4x64x128 .f32) (X7 : Vec F S1x128 .f32) (X8 : Vec F S32768x128 .f32)
    (X9 X10 : Vec F S1x32768 .f32) (X11 X12 X13 : Vec F S8x128 .f32)
    (K : PUnit → sProp (MT nD τ sig ℕ (Elt F) ℕ U ℕ)) :
    iprop(owns (c : Thread nD τ) a1 fullShare T ∗ owns (c : Thread nD τ) a2 fullShare X2 ∗ owns (c : Thread nD τ) a3 fullShare X3
        ∗ owns (c : Thread nD τ) a4 fullShare X4 ∗ owns (c : Thread nD τ) a5 fullShare X5 ∗ owns (c : Thread nD τ) a6 fullShare X6
        ∗ owns (c : Thread nD τ) a7 fullShare X7 ∗ owns (c : Thread nD τ) a8 fullShare X8 ∗ owns (c : Thread nD τ) a9 fullShare X9
        ∗ owns (c : Thread nD τ) a10 fullShare X10 ∗ owns (c : Thread nD τ) a11 fullShare X11
        ∗ owns (c : Thread nD τ) a12 fullShare X12 ∗ owns (c : Thread nD τ) a13 fullShare X13
        ∗ (∀ Y10 Y11 Y12 Y13,
            (⌜(atFirst i → Left i X8 X9 (hidden T X2 X3 X4 X5 X6 X7) k0_pay7 (k0_pay9 k0_pay8) Y10 Y11 Y12 Y13)
                ∧ (¬ atFirst i → Left i X8 X9 (row0 X12) (row0 X13) (row1 X13) Y10 Y11 Y12 Y13)⌝
              ∗ owns (c : Thread nD τ) a1 fullShare T ∗ owns (c : Thread nD τ) a2 fullShare X2 ∗ owns (c : Thread nD τ) a3 fullShare X3
              ∗ owns (c : Thread nD τ) a4 fullShare X4 ∗ owns (c : Thread nD τ) a5 fullShare X5 ∗ owns (c : Thread nD τ) a6 fullShare X6
              ∗ owns (c : Thread nD τ) a7 fullShare X7 ∗ owns (c : Thread nD τ) a8 fullShare X8 ∗ owns (c : Thread nD τ) a9 fullShare X9
              ∗ owns (c : Thread nD τ) a10 fullShare Y10 ∗ owns (c : Thread nD τ) a11 fullShare Y11
              ∗ owns (c : Thread nD τ) a12 fullShare Y12 ∗ owns (c : Thread nD τ) a13 fullShare Y13) -∗ K ⟨⟩))
      ⊢ wp frame (wpE (defs₀ (F := F)) Variants.none (c : Thread nD τ) none) E
          (cc0__pass1_body i a1 h1 a2 h2 a3 h3 a4 h4 a5 h5 a6 h6 a7 h7 a8 h8 a9 h9 a10 h10 a11 h11 a12 h12 a13 h13) K := by
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩,
    ⟨%f9, %e9, H9⟩, ⟨%f10, %e10, H10⟩, ⟨%f11, %e11, H11⟩, ⟨%f12, %e12, H12⟩, ⟨%f13, %e13, H13⟩, HK⟩
  rw [cc0__pass1_body_eq_skeleton]
  unfold cc0__pass1_body_skel
  by_cases hi : atFirst i <;> by_cases hl : k0_cond2 i = 1#1
  all_goals
    sl_exec
    sl_step
    iapply HK
    isplitr
    swap
    · isplitl [H1]
      · iexists f1; isplitr; swap; iexact H1; ipureintro; exact e1
      isplitl [H2]
      · iexists f2; isplitr; swap; iexact H2; ipureintro; exact e2
      isplitl [H3]
      · iexists f3; isplitr; swap; iexact H3; ipureintro; exact e3
      isplitl [H4]
      · iexists f4; isplitr; swap; iexact H4; ipureintro; exact e4
      isplitl [H5]
      · iexists f5; isplitr; swap; iexact H5; ipureintro; exact e5
      isplitl [H6]
      · iexists f6; isplitr; swap; iexact H6; ipureintro; exact e6
      isplitl [H7]
      · iexists f7; isplitr; swap; iexact H7; ipureintro; exact e7
      isplitl [H8]
      · iexists f8; isplitr; swap; iexact H8; ipureintro; exact e8
      isplitl [H9]
      · iexists f9; isplitr; swap; iexact H9; ipureintro; exact e9
      isplitl [H10]
      · iexists _; isplitr; swap; iexact H10; ipureintro; rfl
      isplitl [H11]
      · iexists _; isplitr; swap; iexact H11; ipureintro; rfl
      isplitl [H12]
      · iexists _; isplitr; swap; iexact H12; ipureintro; rfl
      iexists _; isplitr; swap; iexact H13; ipureintro; rfl
    ipureintro
  all_goals
    subst e1 e2 e3 e4 e5 e6 e7 e8 e9 e12 e13
    have r2 := View.readAt_full (Val := Elt F) a2.view f2 inb_S64x128_S64x128_0_0
    have r3 := View.readAt_full (Val := Elt F) a3.view f3 inb_S64x128_S64x128_0_0
    have r4 := View.readAt_full (Val := Elt F) a4.view f4 inb_S64x128_S64x128_0_0
    have r5 := View.readAt_full (Val := Elt F) a5.view f5 inb_S64x128_S64x128_0_0
    have r7 := View.readAt_full (Val := Elt F) a7.view f7 inb_S1x128_S1x128_0_0
    have r8 := View.readAt_full (Val := Elt F) a8.view f8 inb_S32768x128_S32768x128_0_0
    have r9 := View.readAt_full (Val := Elt F) a9.view f9 inb_S1x32768_S1x32768_0_0
    have w0 : ∀ h, a1.view.readAt (Elt F) (Rect.unit (s := S4) ![0] S1.size inb_S4_S1_0).toLoadRect f1 (Shape.Idx.first h)
        = a1.view.read (Elt F) f1 (slot4 0) := fun h => readAt_word a1.view f1 0 inb_S4_S1_0 h
    have w1 : ∀ h, a1.view.readAt (Elt F) (Rect.unit (s := S4) ![1] S1.size inb_S4_S1_1).toLoadRect f1 (Shape.Idx.first h)
        = a1.view.read (Elt F) f1 (slot4 1) := fun h => readAt_word a1.view f1 1 inb_S4_S1_1 h
    have w2 : ∀ h, a1.view.readAt (Elt F) (Rect.unit (s := S4) ![2] S1.size inb_S4_S1_2).toLoadRect f1 (Shape.Idx.first h)
        = a1.view.read (Elt F) f1 (slot4 2) := fun h => readAt_word a1.view f1 2 inb_S4_S1_2 h
    have w3 : ∀ h, a1.view.readAt (Elt F) (Rect.unit (s := S4) ![3] S1.size inb_S4_S1_3).toLoadRect f1 (Shape.Idx.first h)
        = a1.view.read (Elt F) f1 (slot4 3) := fun h => readAt_word a1.view f1 3 inb_S4_S1_3 h
  · refine ⟨fun _ => ⟨?_, ?_, ?_, ?_, fun _ => ⟨?_, ?_⟩⟩, fun h => absurd hi h⟩
    · refine (funext fun j => View.read_writes_cons_hit_of_coords a12.view f12 rect0 _ [] j _ fun a => rfl : row0 (a12.view.read (Elt F) (a12.view.writes (Elt F) f12 [⟨rect0, _⟩])) = _).trans ?_
      sl_open_run
      rw [r2, r3, r4, r5, r7, w0, w1, w2, w3]
      rfl
    · refine (row0_writes a13.view f13 _ _ _).trans ?_
      sl_open_run
      rw [readCov_row0, readCov_row01, r8, r9]
      rw [r2, r3, r4, r5, r7, w0, w1, w2, w3]
      exact shapeCast_self _ _
    · refine (row1_writes a13.view f13 _ _).trans ?_
      sl_open_run
      rw [readCov_row0, readCov_row01, readCov_row1, r8, r9]
      rw [r2, r3, r4, r5, r7, w0, w1, w2, w3]
      exact shapeCast_self _ _
    · refine (View.read_writes_full a10.view f10 _ _ _).trans ?_
      sl_open_run
      rw [readCov_row0, r8, r9]
      rw [r2, r3, r4, r5, r7, w0, w1, w2, w3]
      rfl
    · refine (row0_writes a11.view f11 _ _ _).trans ?_
      sl_open_run
      rw [readCov_row0, readCov_row01, r8, r9]
      rw [r2, r3, r4, r5, r7, w0, w1, w2, w3]
      rfl
    · refine (row1_writes a11.view f11 _ _).trans ?_
      sl_open_run
      rw [readCov_row0, readCov_row01, readCov_row1, r8, r9]
      rw [r2, r3, r4, r5, r7, w0, w1, w2, w3]
      rfl
  · refine ⟨fun _ => ⟨?_, ?_, ?_, ?_, fun h => absurd h hl⟩, fun h => absurd hi h⟩
    · refine (funext fun j => View.read_writes_cons_hit_of_coords a12.view f12 rect0 _ [] j _ fun a => rfl : row0 (a12.view.read (Elt F) (a12.view.writes (Elt F) f12 [⟨rect0, _⟩])) = _).trans ?_
      sl_open_run
      rw [r2, r3, r4, r5, r7, w0, w1, w2, w3]
      rfl
    · refine (row0_writes a13.view f13 _ _ _).trans ?_
      sl_open_run
      rw [readCov_row0, readCov_row01, r8, r9]
      rw [r2, r3, r4, r5, r7, w0, w1, w2, w3]
      exact shapeCast_self _ _
    · refine (row1_writes a13.view f13 _ _).trans ?_
      sl_open_run
      rw [readCov_row0, readCov_row01, readCov_row1, r8, r9]
      rw [r2, r3, r4, r5, r7, w0, w1, w2, w3]
      exact shapeCast_self _ _
    · refine (View.read_writes_full a10.view f10 _ _ _).trans ?_
      sl_open_run
      rw [readCov_row0, r8, r9]
      rw [r2, r3, r4, r5, r7, w0, w1, w2, w3]
      rfl
  · refine ⟨fun h => absurd h hi, fun _ => ⟨?_, ?_, ?_, ?_, fun _ => ⟨?_, ?_⟩⟩⟩
    · rfl
    · refine (row0_writes a13.view f13 _ _ _).trans ?_
      sl_open_run
      rw [r8, r9]
      exact shapeCast_self _ _
    · refine (row1_writes a13.view f13 _ _).trans ?_
      sl_open_run
      rw [r8, r9]
      exact shapeCast_self _ _
    · refine (View.read_writes_full a10.view f10 _ _ _).trans ?_
      sl_open_run
      rw [r8, r9]
      rfl
    · refine (row0_writes a11.view f11 _ _ _).trans ?_
      sl_open_run
      rw [r8, r9]
      rfl
    · refine (row1_writes a11.view f11 _ _).trans ?_
      sl_open_run
      rw [r8, r9]
      rfl
  · refine ⟨fun h => absurd h hi, fun _ => ⟨?_, ?_, ?_, ?_, fun h => absurd h hl⟩⟩
    · rfl
    · refine (row0_writes a13.view f13 _ _ _).trans ?_
      sl_open_run
      rw [r8, r9]
      exact shapeCast_self _ _
    · refine (row1_writes a13.view f13 _ _).trans ?_
      sl_open_run
      rw [r8, r9]
      exact shapeCast_self _ _
    · refine (View.read_writes_full a10.view f10 _ _ _).trans ?_
      sl_open_run
      rw [r8, r9]
      rfl

end Cert.Pass1
-- ==== Proof.Data.lean ====
module

public import proofs.«01_k».proof.Proof.Body
public import Idealize.ShloMosaic.Lib.Pipeline.DatRel
public import Idealize.ShloMosaic.Lib.Pipeline.RegionsLoop

@[expose] public section

noncomputable section

namespace Cert.Pass1

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable {U : Type} [URA U]

/-- The admissible tables of the first call. -/
abbrev Adm0 (F : FTy → Type) [FloatOps F] : Type := (pcfg0 (F := F)).Adm

/-- The table of words that the call reads ahead. -/
abbrev words (a : Adm0 F) : IVec S4 32 := a.1 0

/-- What a window's buffer holds at point `t`, the array's block over whatever `d` was there: the valuation `V` is the arrays' contents
    when the call starts. -/
def held (a : Adm0 F) (V : Valuation τ sig (Elt F)) (w : Fin 10) (t : Fin grid0.N)
    (d : ((win0 a w).block.Idx → Elt F (win0 a w).elt)) : (win0 a w).block.Idx → Elt F (win0 a w).elt :=
  (win0 a w).fill (grid0.coords t) d (((win0 a w).blk t).view.read (Elt F) (V (Proc.devRef .tc (Pipeline.arrRef spec0 w))))

/-- Contents nobody names. -/
def nothing (a : Adm0 F) (w : Fin 10) : (win0 a w).block.Idx → Elt F (win0 a w).elt := fun _ => Classical.arbitrary _

/-- The eight input blocks at a point, at their printed types; the last two are cut at the array's edge, so each takes the contents
    its block is laid over. -/
abbrev in0 (a : Adm0 F) (V : Valuation τ sig (Elt F)) (t : Fin grid0.N) : Vec F S64x128 .f32 := held a V 0 t (nothing a 0)
abbrev in1 (a : Adm0 F) (V : Valuation τ sig (Elt F)) (t : Fin grid0.N) : Vec F S64x128 .f32 := held a V 1 t (nothing a 1)
abbrev in2 (a : Adm0 F) (V : Valuation τ sig (Elt F)) (t : Fin grid0.N) : Vec F S64x128 .f32 := held a V 2 t (nothing a 2)
abbrev in3 (a : Adm0 F) (V : Valuation τ sig (Elt F)) (t : Fin grid0.N) : Vec F S64x128 .f32 := held a V 3 t (nothing a 3)
abbrev in4 (a : Adm0 F) (V : Valuation τ sig (Elt F)) (t : Fin grid0.N) : Vec F S4x64x128 .f32 := held a V 4 t (nothing a 4)
abbrev in5 (a : Adm0 F) (V : Valuation τ sig (Elt F)) (t : Fin grid0.N) : Vec F S1x128 .f32 := held a V 5 t (nothing a 5)
abbrev in6 (a : Adm0 F) (V : Valuation τ sig (Elt F)) (t : Fin grid0.N) (d : Vec F S32768x128 .f32) : Vec F S32768x128 .f32 := held a V 6 t d
abbrev in7 (a : Adm0 F) (V : Valuation τ sig (Elt F)) (t : Fin grid0.N) (d : Vec F S1x32768 .f32) : Vec F S1x32768 .f32 := held a V 7 t d

/-- What is claimed of a run of the first call: an invariant of the two scratch buffers before each point, a property of each block of
    logits, and one of the statistics that the last point leaves. -/
structure Spec (F : FTy → Type) [FloatOps F] where
  inv : ℕ → Vec F S8x128 .f32 → Vec F S8x128 .f32 → Prop
  logits : Fin grid0.N → Vec F S1x32768 .f32 → Prop
  stats : Vec F S8x128 .f32 → Prop

/-- The claim holds of the body, at the arrays' contents `V`. -/
structure Spec.Sound (P : Spec F) (a : Adm0 F) (V : Valuation τ sig (Elt F)) : Prop where
  start : ∀ X12 X13, P.inv 0 X12 X13
  step : ∀ (t : Fin grid0.N) (d6 : Vec F S32768x128 .f32) (d7 : Vec F S1x32768 .f32) (X12 X13 : Vec F S8x128 .f32)
    (Y10 : Vec F S1x32768 .f32) (Y11 Y12 Y13 : Vec F S8x128 .f32), P.inv t.val X12 X13 →
    (atFirst (grid0.coords t) → Left (grid0.coords t) (in6 a V t d6) (in7 a V t d7)
      (hidden (words a) (in0 a V t) (in1 a V t) (in2 a V t) (in3 a V t) (in4 a V t) (in5 a V t)) k0_pay7 (k0_pay9 k0_pay8) Y10 Y11 Y12 Y13) →
    (¬ atFirst (grid0.coords t) → Left (grid0.coords t) (in6 a V t d6) (in7 a V t d7) (row0 X12) (row0 X13) (row1 X13) Y10 Y11 Y12 Y13) →
    P.inv (t.val + 1) Y12 Y13 ∧ P.logits t Y10 ∧ (k0_cond2 (grid0.coords t) = 1#1 → P.stats Y11)

/-- The claim that says nothing. -/
def Spec.none : Spec F := ⟨fun _ _ _ => True, fun _ _ => True, fun _ => True⟩
theorem Spec.none_sound (a : Adm0 F) (V : Valuation τ sig (Elt F)) : (Spec.none (F := F)).Sound a V :=
  ⟨fun _ _ => trivial, fun _ _ _ _ _ _ _ _ _ _ _ _ => ⟨trivial, trivial, fun _ => trivial⟩⟩

local notation "𝕄" => MT nD τ sig ℕ (Elt F) ℕ U ℕ

/-- The buffers of the second call, which the first leaves alone. -/
abbrev rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f))

/-- The body's invariant before point `n`: the two scratch buffers at contents the claim's invariant admits, the table of words, and the second
    call's buffers. -/
def phi (P : Spec F) (a : Adm0 F) (c : Dev nD) (n : ℕ) : sProp 𝕄 :=
  iprop(∃ X12 X13, ⌜P.inv n X12 X13⌝ ∗ owns (c : Thread nD τ) (Memref.whole cc0_scratch0) fullShare X12
    ∗ owns (c : Thread nD τ) (Memref.whole cc0_scratch1) fullShare X13
    ∗ owns (c : Thread nD τ) (Memref.whole main_arg0) fullShare (words a) ∗ rest0 c)

/-- The first call's proof data: every input window keeps its block; what the two results get is said by the relation below. -/
def dat0 (P : Spec F) (a : Adm0 F) (V : Valuation τ sig (Elt F)) (c : Dev nD) : Pipeline.Dat τ (Elt F) ℕ ℕ U ℕ (cfg0 a) c where
  A w := V (Proc.devRef .tc (Pipeline.arrRef spec0 w))
  after w t := held a V w t (nothing a w)
  Φ t := phi P a c t.val
  q w := Pipeline.shareOf spec0 w
  owed _ := 0

/-- The two results, spoken of by a relation. -/
def fgt0 : Fin 10 → Bool := fun | 0 => false | 1 => false | 2 => false | 3 => false | 4 => false | 5 => false | 6 => false | 7 => false | 8 => true | 9 => true | ⟨_ + 10, h⟩ => absurd h (Nat.not_lt.2 (Nat.le_add_left _ _))

/-- What the body leaves in the two results. -/
def rel0 (P : Spec F) (a : Adm0 F) : (w : Fin 10) → Fin grid0.N → ((win0 a w).block.Idx → Elt F (win0 a w).elt) → Prop
  | 8 => fun t X => P.logits t X
  | 9 => fun t X => k0_cond2 (grid0.coords t) = 1#1 → P.stats X
  | _ => fun _ _ => True

/-- A block that is not cut fills its buffer: nothing of what was there is left. -/
theorem held_any (a : Adm0 F) (V : Valuation τ sig (Elt F)) (w : Fin 10) (t : Fin grid0.N) (h : ∀ ax, (win0 a w).clip (grid0.coords t) ax = none)
    (d d' : (win0 a w).block.Idx → Elt F (win0 a w).elt) : held a V w t d = held a V w t d' := by
  funext j
  have hm : (win0 a w).moved (grid0.coords t) j = true :=
    ((win0 a w).moved_iff _ j).mpr fun ax => by have := (j ax).isLt; unfold Pipeline.Window.xsize; rw [h ax]; exact this
  unfold held Pipeline.Window.fill; rw [dif_pos hm, dif_pos hm]

section
variable (P : Spec F) (a : Adm0 F) (V : Valuation τ sig (Elt F)) (c : Dev nD)

theorem dat0_fetched (w : Fin 10) (t : Fin grid0.N) (d : (win0 a w).block.Idx → Elt F (win0 a w).elt) :
    (dat0 (U := U) P a V c).fetched w t d = held a V w t d := rfl

theorem before_held (w : Fin 10) (hw : (win0 a w).isOut = false) (hlive : ∀ i, (cfg0 a).idle w i = false)
    (hclip : ∀ t t' : Fin grid0.N, (win0 a w).index t = (win0 a w).index t' → (win0 a w).clip (grid0.coords t) = (win0 a w).clip (grid0.coords t'))
    (t : Fin grid0.N) (d : (win0 a w).block.Idx → Elt F (win0 a w).elt) :
    (dat0 (U := U) P a V c).before w t d = held a V w t d :=
  (dat0 (U := U) P a V c).before_in_eq_fetched w hw hlive hclip
    (fun t => (win0 a w).cut_fill _ _ _) t d

theorem before0 (t : Fin grid0.N) (d) : (dat0 (U := U) P a V c).before 0 t d = in0 a V t :=
  (before_held P a V c 0 rfl (fun _ => rfl) (fun _ _ _ => rfl) t d).trans (held_any a V 0 t (fun _ => rfl) _ _)
theorem before1 (t : Fin grid0.N) (d) : (dat0 (U := U) P a V c).before 1 t d = in1 a V t :=
  (before_held P a V c 1 rfl (fun _ => rfl) (fun _ _ _ => rfl) t d).trans (held_any a V 1 t (fun _ => rfl) _ _)
theorem before2 (t : Fin grid0.N) (d) : (dat0 (U := U) P a V c).before 2 t d = in2 a V t :=
  (before_held P a V c 2 rfl (fun _ => rfl) (fun _ _ _ => rfl) t d).trans (held_any a V 2 t (fun _ => rfl) _ _)
theorem before3 (t : Fin grid0.N) (d) : (dat0 (U := U) P a V c).before 3 t d = in3 a V t :=
  (before_held P a V c 3 rfl (fun _ => rfl) (fun _ _ _ => rfl) t d).trans (held_any a V 3 t (fun _ => rfl) _ _)
theorem before4 (t : Fin grid0.N) (d) : (dat0 (U := U) P a V c).before 4 t d = in4 a V t :=
  (before_held P a V c 4 rfl (fun _ => rfl) (fun _ _ _ => rfl) t d).trans (held_any a V 4 t (fun _ => rfl) _ _)
theorem before5 (t : Fin grid0.N) (d) : (dat0 (U := U) P a V c).before 5 t d = in5 a V t :=
  (before_held P a V c 5 rfl (fun _ => rfl) (fun _ _ _ => rfl) t d).trans (held_any a V 5 t (fun _ => rfl) _ _)
theorem before6 (t : Fin grid0.N) (d) : (dat0 (U := U) P a V c).before 6 t d = in6 a V t d :=
  before_held P a V c 6 rfl (fun _ => rfl) (fun t t' h => by
    have h' : cc0_transform_6 (grid0.coords t) = cc0_transform_6 (grid0.coords t') := h
    show clip0_6 (grid0.coords t) = clip0_6 (grid0.coords t')
    unfold clip0_6; rw [h']) t d
theorem before7 (t : Fin grid0.N) (d) : (dat0 (U := U) P a V c).before 7 t d = in7 a V t d :=
  before_held P a V c 7 rfl (fun _ => rfl) (fun t t' h => by
    have h' : cc0_transform_7 (grid0.coords t) = cc0_transform_7 (grid0.coords t') := h
    show clip0_7 (grid0.coords t) = clip0_7 (grid0.coords t')
    unfold clip0_7; rw [h']) t d

/-- The body's triple at the call's own buffers: the row of the table of bodies. -/
theorem row0_body (t : Fin grid0.N) (s : (w : Fin 10) → Fin (spec0 w).nbuf)
    (T : IVec S4 32) (X2 X3 X4 X5 : Vec F S64x128 .f32) (X6 : Vec F S4x64x128 .f32) (X7 : Vec F S1x128 .f32) (X8 : Vec F S32768x128 .f32)
    (X9 X10 : Vec F S1x32768 .f32) (X11 X12 X13 : Vec F S8x128 .f32) (K : PUnit → sProp 𝕄) :
    iprop(owns (c : Thread nD τ) (Memref.whole main_arg0) fullShare T ∗ owns (c : Thread nD τ) (spec0_0.stage (s 0)) fullShare X2
        ∗ owns (c : Thread nD τ) (spec0_1.stage (s 1)) fullShare X3 ∗ owns (c : Thread nD τ) (spec0_2.stage (s 2)) fullShare X4
        ∗ owns (c : Thread nD τ) (spec0_3.stage (s 3)) fullShare X5 ∗ owns (c : Thread nD τ) (spec0_4.stage (s 4)) fullShare X6
        ∗ owns (c : Thread nD τ) (spec0_5.stage (s 5)) fullShare X7 ∗ owns (c : Thread nD τ) (spec0_6.stage (s 6)) fullShare X8
        ∗ owns (c : Thread nD τ) (spec0_7.stage (s 7)) fullShare X9 ∗ owns (c : Thread nD τ) (spec0_8.stage (s 8)) fullShare X10
        ∗ owns (c : Thread nD τ) (spec0_9.stage (s 9)) fullShare X11 ∗ owns (c : Thread nD τ) (Memref.whole cc0_scratch0) fullShare X12
        ∗ owns (c : Thread nD τ) (Memref.whole cc0_scratch1) fullShare X13
        ∗ (∀ Y10 Y11 Y12 Y13,
            (⌜(atFirst (grid0.coords t) → Left (grid0.coords t) X8 X9 (hidden T X2 X3 X4 X5 X6 X7) k0_pay7 (k0_pay9 k0_pay8) Y10 Y11 Y12 Y13)
                ∧ (¬ atFirst (grid0.coords t) → Left (grid0.coords t) X8 X9 (row0 X12) (row0 X13) (row1 X13) Y10 Y11 Y12 Y13)⌝
              ∗ owns (c : Thread nD τ) (Memref.whole main_arg0) fullShare T ∗ owns (c : Thread nD τ) (spec0_0.stage (s 0)) fullShare X2
              ∗ owns (c : Thread nD τ) (spec0_1.stage (s 1)) fullShare X3 ∗ owns (c : Thread nD τ) (spec0_2.stage (s 2)) fullShare X4
              ∗ owns (c : Thread nD τ) (spec0_3.stage (s 3)) fullShare X5 ∗ owns (c : Thread nD τ) (spec0_4.stage (s 4)) fullShare X6
              ∗ owns (c : Thread nD τ) (spec0_5.stage (s 5)) fullShare X7 ∗ owns (c : Thread nD τ) (spec0_6.stage (s 6)) fullShare X8
              ∗ owns (c : Thread nD τ) (spec0_7.stage (s 7)) fullShare X9 ∗ owns (c : Thread nD τ) (spec0_8.stage (s 8)) fullShare Y10
              ∗ owns (c : Thread nD τ) (spec0_9.stage (s 9)) fullShare Y11 ∗ owns (c : Thread nD τ) (Memref.whole cc0_scratch0) fullShare Y12
              ∗ owns (c : Thread nD τ) (Memref.whole cc0_scratch1) fullShare Y13) -∗ K ⟨⟩))
      ⊢ wp frame (wpE (defs₀ (F := F)) Variants.none (c : Thread nD τ) none) Set.univ (defs₀ .tc 0 (t, s)) K := by
  conv => { rhs; unfold defs₀; rw [Defs.onTc_tc] }
  exact pass1_body c Set.univ (grid0.coords t) _ _ _ _ _ _ _ _ _ _ _ _ _ _ _ _ _ _ _ _ _ _ _ _ _ _ T X2 X3 X4 X5 X6 X7 X8 X9 X10 X11 X12 X13 K

set_option maxHeartbeats 4000000 in
set_option backward.isDefEq.respectTransparency.types false in
/-- The body's obligation, given that the claim is sound. -/
theorem obligation0 (hP : P.Sound a V) :
    Pipeline.BodyObligationRel (dat0 (U := U) P a V c) (defs₀ (F := F)) Variants.none (0 : ℕ) Set.univ fgt0 (rel0 P a) := by
  intro t
  rw [bigSep_W0, bigSep_W0]
  simp only [fgt0]
  rw [show (dat0 (U := U) P a V c).Φ t.castSucc = phi P a c t.val from Pipeline.Dat.Φ_castSucc (fun n _ => phi P a c n) t,
    show (dat0 (U := U) P a V c).Φ t.succ = phi P a c (t.val + 1) from rfl]
  unfold phi
  iintro ⟨⟨%X12, %X13, %hI, Hs, Hm, Ht, HR⟩, HO, ⟨%d0, H0⟩, ⟨%d1, H1⟩, ⟨%d2, H2⟩, ⟨%d3, H3⟩, ⟨%d4, H4⟩, ⟨%d5, H5⟩, ⟨%d6, H6⟩, ⟨%d7, H7⟩,
    ⟨%Y8, -, H8⟩, ⟨%Y9, -, H9⟩⟩
  rw [before0, before1, before2, before3, before4, before5, before6, before7]
  iapply (row0_body c t ((cfg0 a).slots t) (words a) (in0 a V t) (in1 a V t) (in2 a V t) (in3 a V t) (in4 a V t) (in5 a V t) (in6 a V t d6) (in7 a V t d7)
    Y8 Y9 X12 X13 _)
  isplitl [Ht]; · iexact Ht
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [Hs]; · iexact Hs
  isplitl [Hm]; · iexact Hm
  iintro %Y10 %Y11 %Y12 %Y13 ⟨%hL, Ht, H0, H1, H2, H3, H4, H5, H6, H7, H8, H9, Hs, Hm⟩
  obtain ⟨hI', hY8, hY9⟩ := hP.step t d6 d7 X12 X13 Y10 Y11 Y12 Y13 hI hL.1 hL.2
  isplitl [Hs Hm Ht HR]
  · iexists Y12; iexists Y13
    isplitr; · ipureintro; exact hI'
    isplitl [Hs]; · iexact Hs
    isplitl [Hm]; · iexact Hm
    isplitl [Ht]; · iexact Ht
    iexact HR
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]
  · iexists d6
    iapply (Entails.of_eq (congrArg (fun X => (owns (c : Thread nD τ) (spec0_6.stage ((cfg0 a).slots t 6)) fullShare X : sProp 𝕄))
      (show in6 a V t d6 = (win0 a 6).fill (grid0.coords t) d6 ((win0 a 6).cut (grid0.coords t) (held a V 6 t (nothing a 6))) from
        congrArg (fun X => (win0 a 6).fill (grid0.coords t) d6 X) ((win0 a 6).cut_fill _ _ _).symm)))
    iexact H6
  isplitl [H7]
  · iexists d7
    iapply (Entails.of_eq (congrArg (fun X => (owns (c : Thread nD τ) (spec0_7.stage ((cfg0 a).slots t 7)) fullShare X : sProp 𝕄))
      (show in7 a V t d7 = (win0 a 7).fill (grid0.coords t) d7 ((win0 a 7).cut (grid0.coords t) (held a V 7 t (nothing a 7))) from
        congrArg (fun X => (win0 a 7).fill (grid0.coords t) d7 X) ((win0 a 7).cut_fill _ _ _).symm)))
    iexact H7
  isplitl [H8]
  · iexists Y10; isplitr; · ipureintro; exact hY8
    iexact H8
  iexists Y11; isplitr; · ipureintro; exact hY9
  iexact H9
end

end Cert.Pass1
-- ==== Proof.Region0.lean ====
module

public import proofs.«01_k».proof.Proof.Data
public import Idealize.ShloMosaic.Lib.Pipeline.RegionsLoop
public import Idealize.ShloMosaic.Lib.Pipeline.RegionsForgetLinks
public import Idealize.ShloMosaic.Lib.Pipeline.RegionArraysF
public import Idealize.ShloMosaic.Lib.Pipeline.RegionArraysS
public import Idealize.ShloMosaic.Lib.Pipeline.ArrRel

@[expose] public section

noncomputable section

namespace Cert.Pass1

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable {U : Type} [URA U]

local notation "𝕄" => MT nD τ sig ℕ (Elt F) ℕ U ℕ

/-- The admissible tables of both calls; the second has none. -/
abbrev adm (a : Adm0 F) : (p : Fin 2) → (pcfgs (F := F) p).Adm := fun
  | ⟨0, _⟩ => a
  | ⟨1, _⟩ => cfg1.toPCfg_adm
  | ⟨_ + 2, h⟩ => absurd h (Nat.not_lt.2 (Nat.le_add_left _ _))

abbrev levels : GSem nD τ sig → Finset ℕ := fun _ => ∅
abbrev level : GSem nD τ sig → ℕ → ℕ := fun _ _ => 0

/-- Data of the second call that nobody reads: it stands beside the first call's. -/
def blank1 (V : Valuation τ sig (Elt F)) (c : Dev nD) : Pipeline.Dat τ (Elt F) ℕ ℕ U ℕ cfg1 c where
  A w := V (Proc.devRef .tc (Pipeline.arrRef spec1 w))
  after w t := fun _ => Classical.arbitrary _
  Φ t := iprop(emp)
  q w := fullShare
  owed _ := 0

/-- The first call's relational data, as a family over both calls. -/
def rds0 (P : Spec F) (a : Adm0 F) (V : Valuation τ sig (Elt F)) :
    (p : Fin 2) → (c : Dev nD) → Pipeline.RDat τ (Elt F) ℕ ℕ U ℕ (Pipeline.pin (pcfgs (F := F)) (adm a) p) c := fun
  | ⟨0, _⟩ => fun c => (dat0 P a V c).toRRel fgt0 (rel0 P a)
  | ⟨1, _⟩ => fun c => (blank1 V c).toR
  | ⟨_ + 2, h⟩ => absurd h (Nat.not_lt.2 (Nat.le_add_left _ _))

/-- The exact data beside it. -/
def pds0 (P : Spec F) (a : Adm0 F) (V : Valuation τ sig (Elt F)) :
    (p : Fin 2) → (c : Dev nD) → Pipeline.Dat τ (Elt F) ℕ ℕ U ℕ (Pipeline.pin (pcfgs (F := F)) (adm a) p) c := fun
  | ⟨0, _⟩ => fun c => dat0 P a V c
  | ⟨1, _⟩ => fun c => blank1 V c
  | ⟨_ + 2, h⟩ => absurd h (Nat.not_lt.2 (Nat.le_add_left _ _))

/-- The contents after the first call: the two results replaced. -/
abbrev after0 (V : Valuation τ sig (Elt F)) (G8 : Vec F S1x1000000 .f32) (G9 : Vec F S8x128 .f32) : Valuation τ sig (Elt F) :=
  Function.update (Function.update V (Proc.devRef .tc main_v6_0) G8) (Proc.devRef .tc main_v6_1) G9

theorem after0_ne (V : Valuation τ sig (Elt F)) (G8 : Vec F S1x1000000 .f32) (G9 : Vec F S8x128 .f32) {b : Ref sig .tc} (h8 : b ≠ main_v6_0)
    (h9 : b ≠ main_v6_1) : after0 V G8 G9 (Proc.devRef .tc b) = V (Proc.devRef .tc b) := by
  unfold after0
  rw [Function.update_of_ne (fun e => h9 (Proc.devRef_injective _ e)), Function.update_of_ne (fun e => h8 (Proc.devRef_injective _ e))]

theorem after0_v6_0 (V : Valuation τ sig (Elt F)) (G8 : Vec F S1x1000000 .f32) (G9 : Vec F S8x128 .f32) :
    after0 V G8 G9 (Proc.devRef .tc main_v6_0) = G8 := by
  unfold after0
  rw [Function.update_of_ne (fun e => absurd (Proc.devRef_injective _ e) (by decide)), Function.update_self]

theorem after0_v6_1 (V : Valuation τ sig (Elt F)) (G8 : Vec F S1x1000000 .f32) (G9 : Vec F S8x128 .f32) :
    after0 V G8 G9 (Proc.devRef .tc main_v6_1) = G9 := by
  unfold after0
  rw [Function.update_self]

/-- What is known of the two results: every logit is of a block that the claim admits, and so are the statistics. -/
structure Out0 (P : Spec F) (G8 : Vec F S1x1000000 .f32) (G9 : Vec F S8x128 .f32) : Prop where
  logits : ∀ j : S1x1000000.Idx, ∃ (t : Fin grid0.N) (X : Vec F S1x32768 .f32) (k : S1x32768.Idx),
    P.logits t X ∧ (j 1).val = t.val * 32768 + (k 1).val ∧ G8 j = X k
  stats : P.stats G9

section
variable (P : Spec F) (a : Adm0 F) (V : Valuation τ sig (Elt F)) (c : Dev nD)

/-- Every point of the first call writes its block of logits back. -/
theorem flush8 : ∀ t : Fin grid0.N, Pipeline.Window.flushOf grid0 true cc0_transform_8 t = true := by decide +kernel

/-- Only the last point writes the statistics back. -/
theorem flush9 : ∀ t : Fin grid0.N, Pipeline.Window.flushOf grid0 true cc0_transform_9 t = true ↔ t = ⟨30, by decide⟩ := by decide +kernel

theorem index8 : ∀ t : Fin grid0.N, cc0_transform_8 (grid0.coords t) = ![0, t.val] := by decide +kernel

theorem extent8 : ∀ t : Fin grid0.N, (clip0_8 (grid0.coords t) 0).extent 1 = 1
    ∧ (clip0_8 (grid0.coords t) 1).extent 32768 = min 32768 (1000000 - t.val * 32768) := by decide +kernel

theorem flushed8 (t : Fin grid0.N) : ((cfg0 a).win 8).flush t = true := flush8 t

theorem nblk8 : ((cfg0 a).win 8).nblk (0 : Fin 2) = 1 ∧ ((cfg0 a).win 8).nblk (1 : Fin 2) = 31 :=
  ⟨(by decide : (1 + 1 - 1) / 1 = 1), (by decide : (1000000 + 32768 - 1) / 32768 = 31)⟩

theorem covers8 : ((cfg0 a).win 8).Covers := by
  refine ⟨fun x => ?_, fun β => ?_⟩
  · revert x; show ∀ x : Fin 2, 0 < S1x32768.size x; decide
  · have hβ0 : (β (0 : Fin 2)).val = 0 := Nat.lt_one_iff.mp (Nat.lt_of_lt_of_eq (β (0 : Fin 2)).isLt (nblk8 a).1)
    have hβ1 : (β (1 : Fin 2)).val < 31 := Nat.lt_of_lt_of_eq (β (1 : Fin 2)).isLt (nblk8 a).2
    refine ⟨⟨(β (1 : Fin 2)).val, hβ1⟩, flush8 _, fun x => ?_⟩
    have e := extent8 ⟨(β (1 : Fin 2)).val, hβ1⟩
    have hi : ((cfg0 a).win 8).index ⟨(β (1 : Fin 2)).val, hβ1⟩ = ![0, (β (1 : Fin 2)).val] := index8 _
    match x with
    | ⟨0, _⟩ => exact ⟨(congrFun hi (0 : Fin 2)).trans hβ0.symm, .inl e.1⟩
    | ⟨1, _⟩ =>
      refine ⟨congrFun hi (1 : Fin 2), ?_⟩
      rw [hi]
      have h2 : min 32768 (1000000 - (β (1 : Fin 2)).val * 32768) = 32768
          ∨ 1000000 ≤ (β (1 : Fin 2)).val * 32768 + min 32768 (1000000 - (β (1 : Fin 2)).val * 32768) := by omega
      exact h2.imp (fun h => e.2.trans h) fun h => Nat.le_trans h (Nat.le_of_eq (congrArg _ e.2.symm))

theorem wholeAt9 : ((cfg0 a).win 9).WholeAt (⟨30, by decide⟩ : Fin grid0.N) :=
  ⟨(flush9 _).mpr rfl, fun t h => (flush9 t).mp h, (by decide +kernel : ∀ x : Fin 2, cc0_transform_9 (grid0.coords ⟨30, by decide⟩) x = 0 ∧ S8x128.size x = S8x128.size x)⟩

theorem out8 (G8 : Vec F S1x1000000 .f32) (h : ((dat0 (U := U) P a V c).toRRel fgt0 (rel0 P a)).ArrAt 8 grid0.N G8) :
    ∀ j : S1x1000000.Idx, ∃ (t : Fin grid0.N) (X : Vec F S1x32768 .f32) (k : S1x32768.Idx),
      P.logits t X ∧ (j 1).val = t.val * 32768 + (k 1).val ∧ G8 j = X k := by
  obtain ⟨X, hX, hA⟩ := h.exists_exact
  have e := hA (Function.update (fun _ _ _ => Classical.arbitrary _) 8 X) fun u _ _ => by rw [Function.update_self]
  intro j
  have hP := ((((dat0 (U := U) P a V c).toRRel fgt0 (rel0 P a))).withAfter (Function.update (fun _ _ _ => Classical.arbitrary _) 8 X)).arrAt_forall_of_covers 8
    (fun i v => ∃ (t : Fin grid0.N) (X : Vec F S1x32768 .f32) (k : S1x32768.Idx),
      P.logits t X ∧ ((show S1x1000000.Idx from i) 1).val = t.val * 32768 + (k 1).val ∧ v = X k) (covers8 a)
    (fun t hf y => ?_) j
  · rw [← e] at hP
    exact hP
  · rw [Pipeline.RDat.withAfter_after, Function.update_self]
    refine ⟨t, X t, _, (dat0 (U := U) P a V c).toRRel_leaves (fgt := fgt0) (Rl := rel0 P a) (w := 8) rfl (hX t t.isLt hf), ?_, rfl⟩
    blk_simp
    exact congrArg (fun n => n * 32768 + _) (congrFun (index8 t) (1 : Fin 2))

theorem out9 (G9 : Vec F S8x128 .f32) (h : ((dat0 (U := U) P a V c).toRRel fgt0 (rel0 P a)).ArrAt 9 grid0.N G9) : P.stats G9 := by
  obtain ⟨X, hX, hG⟩ := h.emb_eq_of_wholeAt (wholeAt9 a)
  have hs : P.stats X := (dat0 (U := U) P a V c).toRRel_leaves (fgt := fgt0) (Rl := rel0 P a) (w := 9) rfl hX (by decide +kernel)
  rwa [show G9 = X from funext fun j => hG j]

/-- The first call's entry: the unscoped buffers are the windows' arrays, the table and the rest. -/
theorem entry0 (hT : words a = V (Proc.devRef .tc main_arg0)) :
    (unscopedBufs c (fun b => V (Proc.devRef .tc b)) : sProp 𝕄)
      ⊢ iprop((dat0 P a V c).arrays (dat0 (U := U) P a V c).A ∗ Pipeline.prefHeld pre0 c (fun _ => fullShare) a.1
        ∗ Pipeline.unscopedRestP pre0 spec0 c (fun b => V (Proc.devRef .tc b))) := by
  refine (Pipeline.arrays_of_unscopedBufs_shared (pcfgs (F := F)) (adm a) (pds0 P a V) (p := 0) winFacts₀0 sharedIn0 arr_whole0 c
    (fun _ _ => rfl) (fun b => V (Proc.devRef .tc b)) (fun _ => rfl)).trans (sep_mono .rfl ?_)
  refine (Entails.of_eq (Pipeline.unscopedRest_split preFacts0 c _)).trans (sep_mono (Entails.of_eq ?_) .rfl)
  congr 1
  funext k
  obtain rfl : k = 0 := Subsingleton.elim _ _
  exact hT.symm

theorem exit0 (hT : words a = V (Proc.devRef .tc main_arg0)) :
    iprop(((dat0 (U := U) P a V c).toRRel fgt0 (rel0 P a)).arraysAt grid0.N ∗ Pipeline.prefHeld pre0 c (fun _ => fullShare) a.1
        ∗ Pipeline.unscopedRestP pre0 spec0 c (fun b => V (Proc.devRef .tc b)))
      ⊢ (iprop(∃ G8 G9, ⌜Out0 P G8 G9⌝ ∗ unscopedBufs c (fun b => after0 V G8 G9 (Proc.devRef .tc b))) : sProp 𝕄) := by
  have hj : iprop(Pipeline.prefHeld pre0 c (fun _ => fullShare) a.1 ∗ Pipeline.unscopedRestP pre0 spec0 c (fun b => V (Proc.devRef .tc b)))
      ⊢ (Pipeline.unscopedRest spec0 c (fun b => V (Proc.devRef .tc b)) : sProp 𝕄) := by
    rw [Pipeline.unscopedRest_split preFacts0 c _]
    refine sep_mono (Entails.of_eq ?_) .rfl
    congr 1
    funext k
    obtain rfl : k = 0 := Subsingleton.elim _ _
    exact hT
  refine (sep_mono .rfl hj).trans ?_
  unfold Pipeline.RDat.arraysAt
  refine (sep_mono (BI.bigSep_exists_pi Finset.univ _) .rfl).trans ?_
  iintro ⟨⟨%A, H⟩, HR⟩
  ihave H' := (BI.bigSep_pure_sep Finset.univ (fun w => ((dat0 (U := U) P a V c).toRRel fgt0 (rel0 P a)).ArrAt w grid0.N (A w)) _) $$ H
  icases H' with ⟨%hA, H⟩
  have hin : ∀ w, ((cfg0 a).win w).isOut = false → A w = V (Proc.devRef .tc (Pipeline.arrRef spec0 w)) := fun w hw => by
    have := hA w (Finset.mem_univ w)
    rw [Pipeline.RDat.ArrAt_in _ w hw] at this
    exact this
  iexists (A 8)
  iexists (A 9)
  isplitr
  · ipureintro
    exact ⟨out8 P a V c (A 8) (hA 8 (Finset.mem_univ _)), out9 P a V c (A 9) (hA 9 (Finset.mem_univ _))⟩
  have hF : ∀ w : Fin 10, A w = after0 V (A 8) (A 9) (Proc.devRef .tc (Pipeline.arrRef spec0 w)) := fun
    | 0 => (hin 0 rfl).trans (after0_ne (b := main_v1) V _ _ (by decide) (by decide)).symm
    | 1 => (hin 1 rfl).trans (after0_ne (b := main_v1) V _ _ (by decide) (by decide)).symm
    | 2 => (hin 2 rfl).trans (after0_ne (b := main_v1) V _ _ (by decide) (by decide)).symm
    | 3 => (hin 3 rfl).trans (after0_ne (b := main_v1) V _ _ (by decide) (by decide)).symm
    | 4 => (hin 4 rfl).trans (after0_ne (b := main_v3) V _ _ (by decide) (by decide)).symm
    | 5 => (hin 5 rfl).trans (after0_ne (b := main_v4) V _ _ (by decide) (by decide)).symm
    | 6 => (hin 6 rfl).trans (after0_ne (b := main_v2) V _ _ (by decide) (by decide)).symm
    | 7 => (hin 7 rfl).trans (after0_ne (b := main_v5) V _ _ (by decide) (by decide)).symm
    | 8 => (after0_v6_0 V _ _).symm
    | 9 => (after0_v6_1 V _ _).symm
    | ⟨_ + 10, h⟩ => absurd h (Nat.not_lt.2 (Nat.le_add_left _ _))
  have hR : ∀ b, b ∉ Finset.univ.image (Pipeline.arrRef spec0) → after0 V (A 8) (A 9) (Proc.devRef .tc b) = V (Proc.devRef .tc b) := fun b hb =>
    after0_ne V _ _ (fun e => hb (Finset.mem_image.mpr ⟨8, Finset.mem_univ _, e.symm⟩)) (fun e => hb (Finset.mem_image.mpr ⟨9, Finset.mem_univ _, e.symm⟩))
  iapply (Pipeline.unscopedBufs_of_arrays_shared (pcfgs (F := F)) (adm a) (p := 0) winFacts₀0 sharedIn0 arr_whole0 c (pds0 P a V)
    (fun _ _ => rfl) (fun b => V (Proc.devRef .tc b)) (fun b => after0 V (A 8) (A 9) (Proc.devRef .tc b)) A hF hR)
  isplitl [H]
  · iapply (show ((dat0 (U := U) P a V c).toRRel fgt0 (rel0 P a)).arrays A ⊢ (pds0 P a V 0 c).arrays A from .rfl)
    unfold Pipeline.RDat.arrays
    iexact H
  iexact HR

/-- The invariant before the first point, from the table and the scoped buffers that no window stages. -/
theorem start0 (hs : ∀ X12 X13, P.inv 0 X12 X13) :
    iprop(Pipeline.prefHeld pre0 c (fun _ => fullShare) a.1 ∗ Pipeline.scopedRest spec0 c) ⊢ (phi P a c 0 : sProp 𝕄) := by
  rw [scopedRest0_eq]
  unfold Pipeline.prefHeld phi
  rw [show (Finset.univ : Finset (Fin pre0.K)) = {(0 : Fin 1)} from rfl, BI.bigSep_singleton]
  iintro ⟨HT, ⟨%f0, H0⟩, ⟨%f1, H1⟩, HR⟩
  iexists f0
  iexists f1
  rw [owns_whole, owns_whole, owns_whole]
  isplitr; · ipureintro; exact hs _ _
  isplitl [H0]; · iexact H0
  isplitl [H1]; · iexact H1
  isplitl [HT]; · iexact HT
  iexact HR

/-- The invariant gives the table and those buffers back. -/
theorem final0 (n : ℕ) :
    (phi P a c n : sProp 𝕄) ⊢ iprop(Pipeline.prefHeld pre0 c (fun _ => fullShare) a.1 ∗ Pipeline.scopedRest spec0 c) := by
  rw [scopedRest0_eq]
  unfold Pipeline.prefHeld phi
  rw [show (Finset.univ : Finset (Fin pre0.K)) = {(0 : Fin 1)} from rfl, BI.bigSep_singleton]
  simp only [owns_whole]
  iintro ⟨%X12, %X13, -, H0, H1, HT, HR⟩
  isplitl [HT]; · iexact HT
  isplitl [H0]; · iexists X12; iexact H0
  isplitl [H1]; · iexists X13; iexact H1
  iexact HR

set_option backward.isDefEq.respectTransparency.types false in
/-- The first call as a segment: entered with every unscoped buffer at `V`, left with the two results at contents the claim admits. -/
def seg0 (hP : P.Sound a V) (hT : words a = V (Proc.devRef .tc main_arg0)) :
    Pipeline.RDat.RegionSeg (pcfgs (F := F)) (adm a) (rds0 (U := U) P a V) (0 : ℕ) (defs₀ (F := F)) Variants.none levels level 0 where
  win := winFacts₀0
  block_pos := block_pos0
  stage_whole := stage_whole0
  K := PEmpty
  osem k := k.elim
  ho := Pipeline.OwnSemFacts.none _
  hbody c := (obligation0 P a V c hP).toRRel
  hwaits c := (show (levAts levels level : sProp 𝕄) ⊢ iprop(emp) from by iintro -; iempintro).trans
    (Pipeline.RDat.cellsWaits_of_owed_zero (Pipeline.pin (pcfgs (F := F)) (adm a)) (rds0 (U := U) P a V) (0 : ℕ) 0 c (fun _ => rfl))
  pre c := iprop(unscopedBufs c (fun b => V (Proc.devRef .tc b)) ∗ ∃ W, owes (c : Thread nD τ) 0 W)
  post c := iprop((∃ G8 G9, ⌜Out0 P G8 G9⌝ ∗ unscopedBufs c (fun b => after0 V G8 G9 (Proc.devRef .tc b))) ∗ ∃ W, owes (c : Thread nD τ) 0 W)
  X c := iprop(emp)
  Y c := Pipeline.prefHeld pre0 c (fun _ => fullShare) a.1
  Z c := Pipeline.unscopedRestP pre0 spec0 c (fun b => V (Proc.devRef .tc b))
  hentry c := by
    rw [Pipeline.ownSems0_none]
    show _ ⊢ |={Set.univ}=> iprop((dat0 (U := U) P a V c).arrays (dat0 (U := U) P a V c).A ∗ Pipeline.prefHeld pre0 c (fun _ => fullShare) a.1
      ∗ (dat0 (U := U) P a V c).owesAt 0 0 ∗ emp ∗ Pipeline.unscopedRestP pre0 spec0 c (fun b => V (Proc.devRef .tc b)))
    iintro ⟨⟨HB, HO⟩, -, -⟩
    ihave H := (entry0 P a V c hT) $$ HB
    icases H with ⟨HA, HT, HR⟩
    imodintro
    isplitl [HA]; · iexact HA
    isplitl [HT]; · iexact HT
    isplitl [HO]
    · unfold Pipeline.Dat.owesAt Pipeline.owesWithin Pipeline.Dat.bound
      icases HO with ⟨%W, HO⟩; iexists W; isplitr; · ipureintro; exact fun _ _ => Or.inl trivial
      iexact HO
    isplitr; · iempintro
    iexact HR
  hin c := by
    show _ ⊢ (phi P a c 0 : sProp 𝕄)
    iintro ⟨-, HT, HS⟩
    iapply (start0 P a c hP.start)
    isplitl [HT]; · iexact HT
    iexact HS
  hout c := by
    rw [Pipeline.ownSems0_none]
    refine (show _ ⊢ _ from final0 P a c grid0.N).trans ?_
    iintro ⟨HT, HS⟩
    isplitl [HT]; · iexact HT
    isplitr; · iempintro
    iexact HS
  hexit c := by
    iintro ⟨HA, HO, HT, HR⟩
    imodintro
    isplitl [HA HT HR]
    · iapply (exit0 P a V c hT)
      isplitl [HA]; · iexact HA
      isplitl [HT]; · iexact HT
      iexact HR
    unfold Pipeline.RDat.owesAt Pipeline.owesWithin
    icases HO with ⟨%W, -, HO⟩; iexists W; iexact HO

end

end Cert.Pass1
-- ==== Proof.Region1.lean ====
module

public import proofs.«01_k».proof.Proof.Region0
public import proofs.«01_k».proof.Proof.Gen.KernelIdeal.Points
public import Idealize.ShloMosaic.Lib.Pipeline.ValueKit.Geometry

@[expose] public section

noncomputable section

namespace Cert.Pass1

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable {U : Type} [URA U]

local notation "𝕄" => MT nD τ sig ℕ (Elt F) ℕ U ℕ

/-- What the second call writes, of the statistics and the logits. -/
abbrev normalised (G8 : Vec F S1x1000000 .f32) (G9 : Vec F S8x128 .f32) : Vec F S1x1000000 .f32 := k1_pay1 (row0 G9) (row1 G9) G8

set_option maxHeartbeats 4000000 in
/-- The body of the second call, run once. -/
theorem pass2_body (c : Dev nD) (E : Set ℕ)
    (a0 : Memref sig .tc .vmem S8x128 .f32) (h0 : a0.IsWhole) (a1 : Memref sig .tc .vmem S1x1000000 .f32) (h1 : a1.IsWhole)
    (a2 : Memref sig .tc .vmem S1x1000000 .f32) (h2 : a2.IsWhole)
    (X0 : Vec F S8x128 .f32) (X1 X2 : Vec F S1x1000000 .f32) (K : PUnit → sProp 𝕄) :
    iprop(owns (c : Thread nD τ) a0 fullShare X0 ∗ owns (c : Thread nD τ) a1 fullShare X1 ∗ owns (c : Thread nD τ) a2 fullShare X2
        ∗ ((owns (c : Thread nD τ) a0 fullShare X0 ∗ owns (c : Thread nD τ) a1 fullShare X1
            ∗ owns (c : Thread nD τ) a2 fullShare (normalised X1 X0)) -∗ K ⟨⟩))
      ⊢ wp frame (wpE (defs₀ (F := F)) Variants.none (c : Thread nD τ) none) E (cc1__pass2_body a0 h0 a1 h1 a2 h2) K := by
  unfold owns
  iintro ⟨⟨%f0, %e0, H0⟩, ⟨%f1, %e1, H1⟩, ⟨%f2, %e2, H2⟩, HK⟩
  rw [cc1__pass2_body_eq_skeleton]
  unfold cc1__pass2_body_skel
  sl_exec
  sl_step
  iapply HK
  isplitl [H0]
  · iexists f0; isplitr; swap; iexact H0; ipureintro; exact e0
  isplitl [H1]
  · iexists f1; isplitr; swap; iexact H1; ipureintro; exact e1
  iexists _; isplitr; swap; iexact H2
  ipureintro
  subst e0 e1
  refine (View.read_writes_full a2.view f2 _ _ _).trans ?_
  sl_open_run
  rw [View.readAt_full (Val := Elt F) a1.view f1 inb_S1x1000000_S1x1000000_0_0]
  rfl

/-- The window `w` of the second call, fetched from the valuation `V`. -/
abbrev held1 (V : Valuation τ sig (Elt F)) (w : Fin 3) (t : Fin grid1.N) (d : (win1 w).block.Idx → Elt F (win1 w).elt) :
    (win1 w).block.Idx → Elt F (win1 w).elt :=
  (win1 w).fill (grid1.coords t) d (((win1 w).blk t).view.read (Elt F) (V (Proc.devRef .tc (Pipeline.arrRef spec1 w))))

theorem held1_0 (V : Valuation τ sig (Elt F)) (t : Fin grid1.N) (d) : held1 V 0 t d = V (Proc.devRef .tc main_v6_1) := by
  funext j
  have hm : (win1 0).moved (grid1.coords t) j = true :=
    ((win1 0).moved_iff _ j).mpr fun ax => (j ax).isLt
  unfold held1 Pipeline.Window.fill; rw [dif_pos hm]
  refine congrArg (V (Proc.devRef .tc main_v6_1)) (funext fun ax => Fin.ext ?_)
  exact ((win1 0).rect_emb_val_of_index_zero t ax rfl _)
theorem held1_1 (V : Valuation τ sig (Elt F)) (t : Fin grid1.N) (d) : held1 V 1 t d = V (Proc.devRef .tc main_v6_0) := by
  funext j
  have hm : (win1 1).moved (grid1.coords t) j = true :=
    ((win1 1).moved_iff _ j).mpr fun ax => (j ax).isLt
  unfold held1 Pipeline.Window.fill; rw [dif_pos hm]
  refine congrArg (V (Proc.devRef .tc main_v6_0)) (funext fun ax => Fin.ext ?_)
  exact ((win1 1).rect_emb_val_of_index_zero t ax rfl _)

/-- What the second call's body leaves in each window. -/
def left1 (V : Valuation τ sig (Elt F)) : (w : Fin 3) → (win1 w).block.Idx → Elt F (win1 w).elt
  | 0 => V (Proc.devRef .tc main_v6_1)
  | 1 => V (Proc.devRef .tc main_v6_0)
  | 2 => normalised (V (Proc.devRef .tc main_v6_0)) (V (Proc.devRef .tc main_v6_1))
  | ⟨_ + 3, h⟩ => absurd h (Nat.not_lt.2 (Nat.le_add_left _ _))

/-- The second call's data. -/
def dat1 (V : Valuation τ sig (Elt F)) (c : Dev nD) : Pipeline.Dat τ (Elt F) ℕ ℕ U ℕ cfg1 c where
  A w := V (Proc.devRef .tc (Pipeline.arrRef spec1 w))
  after w t := left1 V w
  Φ t := Pipeline.scopedRest spec1 c
  q w := fullShare
  owed _ := 0

theorem before1_0 (V : Valuation τ sig (Elt F)) (c : Dev nD) (t : Fin grid1.N) (d) :
    (dat1 (U := U) V c).before 0 t d = V (Proc.devRef .tc main_v6_1) := by
  unfold Pipeline.Dat.before; rw [if_pos (fetch1_0 t)]; exact held1_0 V t d
theorem before1_1 (V : Valuation τ sig (Elt F)) (c : Dev nD) (t : Fin grid1.N) (d) :
    (dat1 (U := U) V c).before 1 t d = V (Proc.devRef .tc main_v6_0) := by
  unfold Pipeline.Dat.before; rw [if_pos (fetch1_1 t)]; exact held1_1 V t d

theorem row1_body (c : Dev nD) (t : Fin grid1.N) (s : (w : Fin 3) → Fin (spec1 w).nbuf)
    (X0 : Vec F S8x128 .f32) (X1 X2 : Vec F S1x1000000 .f32) (K : PUnit → sProp 𝕄) :
    iprop(owns (c : Thread nD τ) (spec1 0 |>.stage (s 0)) fullShare X0 ∗ owns (c : Thread nD τ) (spec1 1 |>.stage (s 1)) fullShare X1
        ∗ owns (c : Thread nD τ) (spec1 2 |>.stage (s 2)) fullShare X2
        ∗ ((owns (c : Thread nD τ) (spec1 0 |>.stage (s 0)) fullShare X0 ∗ owns (c : Thread nD τ) (spec1 1 |>.stage (s 1)) fullShare X1
            ∗ owns (c : Thread nD τ) (spec1 2 |>.stage (s 2)) fullShare (normalised X1 X0)) -∗ K ⟨⟩))
      ⊢ wp frame (wpE (defs₀ (F := F)) Variants.none (c : Thread nD τ) none) Set.univ (defs₀ .tc 1 (t, s)) K := by
  conv => { rhs; unfold defs₀; rw [Defs.onTc_tc] }
  exact pass2_body c Set.univ _ _ _ _ _ _ X0 X1 X2 K

set_option maxHeartbeats 4000000 in
set_option backward.isDefEq.respectTransparency.types false in
/-- The second call's body meets its obligation. -/
theorem obligation1 (V : Valuation τ sig (Elt F)) (c : Dev nD) :
    Pipeline.BodyObligation (dat1 (U := U) V c) (defs₀ (F := F)) Variants.none (0 : ℕ) Set.univ := by
  intro t
  rw [bigSep_W1, bigSep_W1]
  rw [show (dat1 (U := U) V c).Φ t.castSucc = Pipeline.scopedRest spec1 c from rfl, show (dat1 (U := U) V c).Φ t.succ = Pipeline.scopedRest spec1 c from rfl]
  iintro ⟨HR, HO, ⟨%d0, H0⟩, ⟨%d1, H1⟩, ⟨%d2, H2⟩⟩
  rw [before1_0, before1_1]
  iapply (row1_body c t (cfg1.slots t) (V (Proc.devRef .tc main_v6_1)) (V (Proc.devRef .tc main_v6_0)) ((dat1 V c).before 2 t d2) _)
  isplitl [H0]; · iexact H0
  isplitl [H1]; · iexact H1
  isplitl [H2]; · iexact H2
  iintro ⟨H0, H1, H2⟩
  isplitl [HR]; · iexact HR
  isplitl [HO]; · iexact HO
  isplitl [H0]; · iexact H0
  isplitl [H1]; · iexact H1
  iexact H2

theorem final1 (V : Valuation τ sig (Elt F)) (c : Dev nD) :
    (dat1 (U := U) V c).arrAt 2 cfg1.N = normalised (V (Proc.devRef .tc main_v6_0)) (V (Proc.devRef .tc main_v6_1)) :=
  (dat1 (U := U) V c).arrAt_eq_of_after_last 2 t1_0 (by decide +kernel) _ fun j => rfl

/-- The second call's data, as a family over both calls. -/
def rds1 (a : Adm0 F) (V : Valuation τ sig (Elt F)) :
    (p : Fin 2) → (c : Dev nD) → Pipeline.RDat τ (Elt F) ℕ ℕ U ℕ (Pipeline.pin (pcfgs (F := F)) (adm a) p) c := fun
  | ⟨0, _⟩ => fun c => (dat0 Spec.none a V c).toR
  | ⟨1, _⟩ => fun c => (dat1 V c).toR
  | ⟨_ + 2, h⟩ => absurd h (Nat.not_lt.2 (Nat.le_add_left _ _))

/-- The exact data beside it. -/
def pds1 (a : Adm0 F) (V : Valuation τ sig (Elt F)) :
    (p : Fin 2) → (c : Dev nD) → Pipeline.Dat τ (Elt F) ℕ ℕ U ℕ (Pipeline.pin (pcfgs (F := F)) (adm a) p) c := fun
  | ⟨0, _⟩ => fun c => dat0 Spec.none a V c
  | ⟨1, _⟩ => fun c => dat1 V c
  | ⟨_ + 2, h⟩ => absurd h (Nat.not_lt.2 (Nat.le_add_left _ _))

/-- The contents after the second call. -/
abbrev after1 (V : Valuation τ sig (Elt F)) : Valuation τ sig (Elt F) :=
  Function.update V (Proc.devRef .tc main_v7) (normalised (V (Proc.devRef .tc main_v6_0)) (V (Proc.devRef .tc main_v6_1)))

theorem after1_ne (V : Valuation τ sig (Elt F)) {b : Ref sig .tc} (h : b ≠ main_v7) : after1 V (Proc.devRef .tc b) = V (Proc.devRef .tc b) := by
  unfold after1
  rw [Function.update_of_ne (fun e => h (Proc.devRef_injective _ e))]

theorem after1_v7 (V : Valuation τ sig (Elt F)) :
    after1 V (Proc.devRef .tc main_v7) = normalised (V (Proc.devRef .tc main_v6_0)) (V (Proc.devRef .tc main_v6_1)) := by
  unfold after1; rw [Function.update_self]

section
variable (a : Adm0 F) (V : Valuation τ sig (Elt F)) (c : Dev nD)

include a in
theorem entry1 : (unscopedBufs c (fun b => V (Proc.devRef .tc b)) : sProp 𝕄)
      ⊢ iprop((dat1 (U := U) V c).arrays (dat1 (U := U) V c).A ∗ Pipeline.unscopedRest spec1 c (fun b => V (Proc.devRef .tc b))) :=
  Pipeline.arrays_of_unscopedBufs (pcfgs (F := F)) (adm a) (pds1 a V) (p := 1) winFacts1 arr_whole1 c
    (fun w => by match w with | 0 => rfl | 1 => rfl | 2 => rfl) (fun b => V (Proc.devRef .tc b)) (fun _ => rfl)

include a in
theorem exit1 : iprop((dat1 (U := U) V c).toR.arraysAt grid1.N ∗ Pipeline.unscopedRest spec1 c (fun b => V (Proc.devRef .tc b)))
      ⊢ (unscopedBufs c (fun b => after1 V (Proc.devRef .tc b)) : sProp 𝕄) := by
  unfold Pipeline.RDat.arraysAt
  refine (sep_mono (BI.bigSep_exists_pi Finset.univ _) .rfl).trans ?_
  iintro ⟨⟨%A, H⟩, HR⟩
  ihave H' := (BI.bigSep_pure_sep Finset.univ (fun w => ((dat1 (U := U) V c).toR).ArrAt w grid1.N (A w)) _) $$ H
  icases H' with ⟨%hA, H⟩
  have hin : ∀ w, (cfg1.win w).isOut = false → A w = V (Proc.devRef .tc (Pipeline.arrRef spec1 w)) := fun w hw => by
    have := hA w (Finset.mem_univ w)
    rw [Pipeline.RDat.ArrAt_in _ w hw] at this
    exact this
  have hout : A 2 = (dat1 (U := U) V c).arrAt 2 cfg1.N := by
    have := hA 2 (Finset.mem_univ _)
    exact (dat1 (U := U) V c).toR_arrAt 2 _ _ this
  have hF : ∀ w : Fin 3, A w = after1 V (Proc.devRef .tc (Pipeline.arrRef spec1 w)) := fun
    | 0 => (hin 0 rfl).trans (after1_ne (b := main_v6_1) V (by decide)).symm
    | 1 => (hin 1 rfl).trans (after1_ne (b := main_v6_0) V (by decide)).symm
    | 2 => (hout.trans (final1 V c)).trans (after1_v7 V).symm
    | ⟨_ + 3, h⟩ => absurd h (Nat.not_lt.2 (Nat.le_add_left _ _))
  have hR : ∀ b, b ∉ Finset.univ.image (Pipeline.arrRef spec1) → after1 V (Proc.devRef .tc b) = V (Proc.devRef .tc b) := fun b hb =>
    after1_ne V (fun e => hb (Finset.mem_image.mpr ⟨2, Finset.mem_univ _, e.symm⟩))
  iapply (Pipeline.unscopedBufs_of_arrays (pcfgs (F := F)) (adm a) (p := 1) winFacts1 arr_whole1 c (pds1 a V)
    (fun w => by match w with | 0 => rfl | 1 => rfl | 2 => rfl) (fun b => V (Proc.devRef .tc b)) (fun b => after1 V (Proc.devRef .tc b)) A hF hR)
  isplitl [H]
  · iapply (show (dat1 (U := U) V c).toR.arrays A ⊢ (pds1 a V 1 c).arrays A from .rfl)
    unfold Pipeline.RDat.arrays
    iexact H
  iexact HR

set_option backward.isDefEq.respectTransparency.types false in
/-- The second call as a segment: entered with every unscoped buffer at `V`, left with the result at the normalised logits. -/
def seg1 : Pipeline.RDat.RegionSeg (pcfgs (F := F)) (adm a) (rds1 (U := U) a V) (0 : ℕ) (defs₀ (F := F)) Variants.none levels level 1 where
  win := winFacts1.to₀
  block_pos := block_pos1
  stage_whole := stage_whole1
  K := PEmpty
  osem k := k.elim
  ho := Pipeline.OwnSemFacts.none _
  hbody c := (obligation1 V c).toR
  hwaits c := (show (levAts levels level : sProp 𝕄) ⊢ iprop(emp) from by iintro -; iempintro).trans
    (Pipeline.RDat.cellsWaits_of_owed_zero (Pipeline.pin (pcfgs (F := F)) (adm a)) (rds1 (U := U) a V) (0 : ℕ) 1 c (fun _ => rfl))
  pre c := iprop(unscopedBufs c (fun b => V (Proc.devRef .tc b)) ∗ ∃ W, owes (c : Thread nD τ) 0 W)
  post c := iprop(unscopedBufs c (fun b => after1 V (Proc.devRef .tc b)) ∗ ∃ W, owes (c : Thread nD τ) 0 W)
  X c := iprop(emp)
  Y c := iprop(emp)
  Z c := Pipeline.unscopedRest spec1 c (fun b => V (Proc.devRef .tc b))
  hentry c := by
    rw [Pipeline.ownSems0_none]
    show _ ⊢ |={Set.univ}=> iprop((dat1 (U := U) V c).arrays (dat1 (U := U) V c).A ∗ Pipeline.prefHeld _ c (fun _ => fullShare) _
      ∗ (dat1 (U := U) V c).owesAt 0 0 ∗ emp ∗ Pipeline.unscopedRest spec1 c (fun b => V (Proc.devRef .tc b)))
    iintro ⟨⟨HB, HO⟩, -, -⟩
    ihave H := (entry1 a V c) $$ HB
    icases H with ⟨HA, HR⟩
    imodintro
    isplitl [HA]; · iexact HA
    isplitr
    · unfold Pipeline.prefHeld
      iapply (show (BI.emp : sProp 𝕄) ⊢ bigSep (Finset.univ : Finset (Fin 0)) _ from by
        rw [show (Finset.univ : Finset (Fin 0)) = ∅ from rfl, BI.bigSep_empty])
      iempintro
    isplitl [HO]
    · unfold Pipeline.Dat.owesAt Pipeline.owesWithin Pipeline.Dat.bound
      icases HO with ⟨%W, HO⟩; iexists W; isplitr; · ipureintro; exact fun _ _ => Or.inl trivial
      iexact HO
    isplitr; · iempintro
    iexact HR
  hin c := by
    show _ ⊢ (Pipeline.scopedRest spec1 c : sProp 𝕄)
    iintro ⟨-, -, HS⟩
    iexact HS
  hout c := by
    rw [Pipeline.ownSems0_none]
    show (Pipeline.scopedRest spec1 c : sProp 𝕄) ⊢ _
    iintro HS
    isplitr; · iempintro
    isplitr; · iempintro
    iexact HS
  hexit c := by
    iintro ⟨HA, HO, -, HR⟩
    imodintro
    isplitl [HA HR]
    · iapply (exit1 a V c)
      isplitl [HA]; · iexact HA
      iexact HR
    unfold Pipeline.RDat.owesAt Pipeline.owesWithin
    icases HO with ⟨%W, -, HO⟩; iexists W; iexact HO

end

end Cert.Pass1
-- ==== Proof.Run.lean ====
module

public import proofs.«01_k».proof.Proof.Region1
public import proofs.«01_k».proof.Proof.Gen.KernelIdeal.Regions
public import Idealize.ShloMosaic.Lib.HostLoop.Lifted
public import Idealize.ShloMosaic.Lib.HostLoop.Plain

@[expose] public section

noncomputable section

namespace Cert.Pass1

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- One copy of the pipelines' algebra for each of the two calls, and one that stands beside them. -/
abbrev UU : Type := IProdConst (Fin 2) (Rounds.URounds (GSem nD τ sig) Unit) × Rounds.URounds (GSem nD τ sig) Unit

local notation "𝕄" => MT nD τ sig ℕ (Elt F) ℕ UU ℕ

/-- No host loop. -/
abbrev loops : Fin 0 → Prog (TpuEff nD τ sig (Elt F) (HostLoop.Sig (Pipeline.Sig Λ₀ (Fin 2) fun p => (pcfgs (F := F) p).Adm) 0) .tc) PUnit :=
  fun l => l.elim0

/-- One entry of each call. -/
def tk (a : Adm0 F) (V : Valuation τ sig (Elt F)) :
    Fin 2 → Pipeline.Ticket (Ix := ℕ) (Name := ℕ) (U := UU) (Lvl := ℕ) (nD := nD) (τ := τ) (pcfgs (F := F)) (adm a)
  | ⟨0, h⟩ => { p := 0, pdats := pds1 a V, EP := embAt (⟨0, h⟩ : Fin 2) }
  | ⟨1, h⟩ => { p := 1, pdats := pds1 a V, EP := embAt (⟨1, h⟩ : Fin 2) }
  | ⟨_ + 2, h⟩ => absurd h (Nat.not_lt.2 (Nat.le_add_left _ _))

variable (P : Spec F) (a : Adm0 F) (m : (ℓ : Loc nD τ sig) → Buf (Elt F) ℓ)

/-- What rides along: nothing owed. -/
abbrev Rc (c : Dev nD) : sProp 𝕄 := iprop(∃ W, owes (c : Thread nD τ) 0 W)

/-- The contents when the first call is entered. -/
abbrev Vat : Valuation τ sig (Elt F) := V3 m 0

abbrev KitSeg : Type 1 := Pipeline.CSeg (pcfgs (F := F)) (adm a) defs₀ Variants.none levels level loops (tk a (Vat m))

abbrev host0 : KitSeg a m := Pipeline.CSeg.ofOps _ _ _ _ _ _ _ _ (Pipeline.ucRefs τ sig) hostOps0
  (fun op h => Pipeline.sub_ucRefs op ((List.forall_iff_forall_mem.mp hostOps0_sub) op h))
  (fun op h => (List.forall_iff_forall_mem.mp hostOps0_fresh) op h) (V0 m) Rc
abbrev host1 : KitSeg a m := Pipeline.CSeg.ofOps _ _ _ _ _ _ _ _ (Pipeline.ucRefs τ sig) hostOps0_1
  (fun op h => Pipeline.sub_ucRefs op ((List.forall_iff_forall_mem.mp hostOps0_1_sub) op h))
  (fun op h => (List.forall_iff_forall_mem.mp hostOps0_1_fresh) op h) (V1 m) Rc
abbrev host2 : KitSeg a m := Pipeline.CSeg.ofOps _ _ _ _ _ _ _ _ (Pipeline.ucRefs τ sig) hostOps0_2
  (fun op h => Pipeline.sub_ucRefs op ((List.forall_iff_forall_mem.mp hostOps0_2_sub) op h))
  (fun op h => (List.forall_iff_forall_mem.mp hostOps0_2_fresh) op h) (V2 m) Rc

section
variable (hP : P.Sound a (Vat m)) (hT : words a = Vat m (Proc.devRef .tc main_arg0))

abbrev call0 : KitSeg a m := Pipeline.CSeg.regionAtR (pcfgs (F := F)) (adm a) (0 : ℕ) (cellOf_inj (adm a)) defs₀ Variants.none levels level loops
  (tk a (Vat m)) 0 (rds0 P a (Vat m)) (seg0 P a (Vat m) hP hT)
abbrev call1 : KitSeg a m := Pipeline.CSeg.regionFR (pcfgs (F := F)) (adm a) (0 : ℕ) (cellOf_inj (adm a)) defs₀ Variants.none levels level loops
  (tk a (Vat m)) 1 (X := Vec F S1x1000000 .f32 × Vec F S8x128 .f32) (fun o => rds1 a (after0 (Vat m) o.1 o.2)) (fun o => seg1 a (after0 (Vat m) o.1 o.2))
  (fun o _ => Out0 P o.1 o.2)

abbrev segs : List (KitSeg a m) := [host0 a m, host1 a m, host2 a m, call0 P a m hP hT, call1 P a m]

theorem main_chainL (c : Dev nD) : HostLoop.liftProg (L := 0) (main (F := F) c) = Pipeline.chain
    [ StableHlo.seq hostOps0, StableHlo.seq hostOps0_1, StableHlo.seq hostOps0_2,
      Prog.lift (.customCall (HostLoop.inner (Pipeline.entry 0)) ()),
      Prog.lift (.customCall (HostLoop.inner (Pipeline.entry 1)) ()) ] := by
  rw [main_chain, HostLoop.liftProg_chain]
  simp only [List.map_cons, List.map_nil, HostLoop.liftProg_seq]
  rfl

theorem main_run (c : Dev nD) : HostLoop.liftProg (L := 0) (main (F := F) c) = Pipeline.CSeg.runL (segs P a m hP hT) :=
  (main_chainL c).trans (by chain_rfl)

theorem segs_disjoint : (segs P a m hP hT).Pairwise fun s s' => Disjoint s.T s'.T := by
  have h0 : (host0 a m).T = ∅ := rfl
  have h1 : (host1 a m).T = ∅ := rfl
  have h2 : (host2 a m).T = ∅ := rfl
  have h3 : (call0 P a m hP hT).T = {0} := rfl
  have h4 : (call1 P a m).T = {1} := rfl
  simp only [segs, List.pairwise_cons, List.mem_cons, List.mem_nil_iff, or_false, forall_eq_or_imp, forall_eq, h0, h1, h2, h3, h4,
    Finset.disjoint_empty_left, true_and, and_true, List.Pairwise.nil, Finset.disjoint_singleton, implies_true, false_implies]
  decide

abbrev T₀ (c : Dev nD) : sProp 𝕄 := iprop(StableHlo.held (c : Thread nD τ) (Pipeline.ucRefs τ sig) (V0 m c) ∗ Rc c)
abbrev Tₙ (c : Dev nD) : sProp 𝕄 :=
  iprop(∃ o : Vec F S1x1000000 .f32 × Vec F S8x128 .f32, ⌜Out0 P o.1 o.2⌝ ∗ unscopedBufs c (fun b => after1 (after0 (Vat m) o.1 o.2) (Proc.devRef .tc b)))

theorem link0 (c : Dev nD) : (host2 a m).post c ⊢ (call0 P a m hP hT).pre c := by
  obtain rfl : c = 0 := Subsingleton.elim _ _
  show iprop(StableHlo.held ((0 : Dev nD) : Thread nD τ) (Pipeline.ucRefs τ sig) (Vat m) ∗ Rc 0)
    ⊢ iprop(unscopedBufs 0 (fun b => Vat m (Proc.devRef .tc b)) ∗ ∃ W, owes ((0 : Dev nD) : Thread nD τ) 0 W)
  rw [← Pipeline.unscopedBufs_held 0 (Vat m)]

theorem link1 (c : Dev nD) : (call0 P a m hP hT).post c ⊢ (call1 P a m).pre c := by
  show iprop((∃ G8 G9, ⌜Out0 P G8 G9⌝ ∗ unscopedBufs c (fun b => after0 (Vat m) G8 G9 (Proc.devRef .tc b))) ∗ ∃ W, owes (c : Thread nD τ) 0 W)
    ⊢ iprop(∃ o : Vec F S1x1000000 .f32 × Vec F S8x128 .f32, ⌜Out0 P o.1 o.2⌝
      ∗ unscopedBufs c (fun b => after0 (Vat m) o.1 o.2 (Proc.devRef .tc b)) ∗ ∃ W, owes (c : Thread nD τ) 0 W)
  iintro ⟨⟨%G8, %G9, %h, HB⟩, HO⟩
  iexists (G8, G9)
  isplitr; · ipureintro; exact h
  isplitl [HB]; · iexact HB
  iexact HO

theorem link2 (c : Dev nD) : (call1 P a m).post c ⊢ iprop(Tₙ P m c ∗ ∃ W, owes (c.tc : Thread nD τ) (0 : CellTallies nD τ sig ℕ) W) := by
  show iprop(∃ o : Vec F S1x1000000 .f32 × Vec F S8x128 .f32, ⌜Out0 P o.1 o.2⌝
      ∗ unscopedBufs c (fun b => after1 (after0 (Vat m) o.1 o.2) (Proc.devRef .tc b)) ∗ ∃ W, owes (c : Thread nD τ) 0 W) ⊢ _
  iintro ⟨%o, %h, HB, HO⟩
  isplitl [HB]
  · iexists o
    isplitr; · ipureintro; exact h
    iexact HB
  iexact HO

/-- What the launch deals to each of the two calls. -/
abbrev dealt : Fin 2 → Rounds.URounds (GSem nD τ sig) Unit := fun _ =>
  Rounds.initOf (Pipeline.cells (Pipeline.pin (pcfgs (F := F)) (adm a)) (cellOf_inj (adm a)))
    (Pipeline.launchToks (Pipeline.pin (pcfgs (F := F)) (adm a)) (cellOf_inj (adm a)))

theorem deal : (bigSep Finset.univ fun j : Fin 2 => BI.own (embAt j (dealt a j)) : sProp 𝕄)
    ⊢ bigSep Finset.univ fun j : Fin 2 => BI.own ((tk a (Vat m) j).EP (dealt a j)) :=
  bigSep_mono fun j _ => by
    match j with
    | 0 => exact BI.Entails.refl _
    | 1 => exact BI.Entails.refl _

/-- The contents at the end, of the first call's two results. -/
abbrev atEnd (o : Vec F S1x1000000 .f32 × Vec F S8x128 .f32) : Valuation τ sig (Elt F) := after1 (after0 (Vat m) o.1 o.2)

set_option backward.isDefEq.respectTransparency.types false in
/-- The run: every unscoped buffer ends at the contents that some admitted results of the first call make, and every semaphore at zero. -/
theorem run_lifted (hP : P.Sound a (Vat m)) (hT : words a = Vat m (Proc.devRef .tc main_arg0)) (g : Dev nD → PrngReg) :
    θ_run (HostLoop.defs (L := 0) (fun l => l.elim0) (defs (F := F))) (onTc fun d => HostLoop.liftProg (L := 0) (main (F := F) d)) ⟨m, fun _ => 0, g⟩
      (fun r => (∃ o : Vec F S1x1000000 .f32 × Vec F S8x128 .f32, Out0 P o.1 o.2
        ∧ ∀ b ∈ Pipeline.ucRefs τ sig, r.2.mem (((0 : Dev nD) : Thread nD τ).1, b) = atEnd m o b) ∧ r.2.sem = fun _ => 0) :=
  Pipeline.θ_run_regions_loop_kit_sems (pcfgs (F := F)) (adm a) (cellOf_inj (adm a)) defs₀ Variants.none levels level loops (tk a (Vat m)) m g
    (fun d => HostLoop.liftProg (L := 0) (main (F := F) d)) (segs P a m hP hT)
    (fun c Q => by rw [main_run P a m hP hT c]) (segs_disjoint P a m hP hT)
    (O₀ := 0) (hL := fun _ _ => rfl) (G := fun _ => iprop(emp))
    (u₀ := (dealt a, 1))
    (hu₀ := by
      iintro Hu
      ihave H := (ownU_pair _ _) $$ Hu
      icases H with ⟨HX, -⟩
      imodintro
      isplitl [HX]
      · ihave H := (own_iprod (dealt a)) $$ HX
        iapply (deal a m)
        iexact H
      rw [show (Finset.univ : Finset (Dev nD)) = {(0 : Dev nD)} from rfl, BI.bigSep_singleton]
      iempintro)
    (T₀ := T₀ m) (Tₙ := Tₙ P m)
    (hch := ⟨fun _ => .rfl, fun _ => .rfl, fun _ => .rfl, link0 P a m hP hT, link1 P a m hP hT, link2 P a m⟩)
    (hinit := by
      rw [show (Finset.univ : Finset (Dev nD)) = {(0 : Dev nD)} from rfl, BI.bigSep_singleton, BI.bigSep_singleton]
      rw [show unscopedBufs 0 (fun b => m (((0 : Dev nD) : Thread nD τ).loc b)) = StableHlo.held ((0 : Dev nD) : Thread nD τ) (Pipeline.ucRefs τ sig) (V0 m 0) from Pipeline.unscopedBufs_held 0 (V0 m 0)]
      iintro ⟨⟨HB, -, HO, -⟩, -⟩
      imodintro
      isplitl [HB]; · iexact HB
      iexists ∅; iexact HO)
    (QY := fun c s => ∃ o : Vec F S1x1000000 .f32 × Vec F S8x128 .f32, Out0 P o.1 o.2
        ∧ ∀ b ∈ Pipeline.ucRefs τ sig, s.mem ((c : Thread nD τ).1, b) = atEnd m o b)
    (hfin := fun c s' => by
      iintro ⟨⟨%o, %ho, HB⟩, HSI⟩
      ihave Hh := (Entails.of_eq (Pipeline.unscopedBufs_held c (atEnd m o))) $$ HB
      ihave Hp := (pointsTo_read_all (Pipeline.ucRefs τ sig) (fun b => (((c : Thread nD τ)).1, b)) (atEnd m o) s') $$ [Hh HSI]
      · isplitl [Hh]
        · unfold StableHlo.held; iexact Hh
        iexact HSI
      icases Hp with ⟨%hb, HSI⟩
      imodintro
      isplitr; · ipureintro; exact ⟨o, ho, hb⟩
      iexact HSI)
    (hQ := fun s h hs => ⟨h 0, funext fun g => hs g (.inr (regions_no_unscoped g.2))⟩)

end

theorem atEnd_of (o : Vec F S1x1000000 .f32 × Vec F S8x128 .f32) (b : Ref sig .tc) (h6 : b ≠ main_v6_0) (h61 : b ≠ main_v6_1) (h7 : b ≠ main_v7) :
    atEnd m o (Proc.devRef .tc b) = Vat m (Proc.devRef .tc b) :=
  (after1_ne (after0 (Vat m) o.1 o.2) h7).trans (after0_ne (Vat m) o.1 o.2 h6 h61)

theorem atEnd_v7 (o : Vec F S1x1000000 .f32 × Vec F S8x128 .f32) : atEnd m o (Proc.devRef .tc main_v7) = normalised o.1 o.2 := by
  refine (after1_v7 (after0 (Vat m) o.1 o.2)).trans ?_
  rw [after0_v6_0, after0_v6_1]

/-- An argument's contents when the first call is entered: the launch's. -/
theorem Vat_of (b : Ref sig .tc) (h0 : b ∉ hostOps0_W) (h1 : b ∉ hostOps0_1_W) (h2 : b ∉ hostOps0_2_W) :
    Vat m (Proc.devRef .tc b) = m (((0 : Dev nD) : Thread nD τ).loc b) :=
  (V3_of m 0 b h2).trans ((V2_of m 0 b h1).trans ((V1_of m 0 b h0).trans rfl))

/-- The whole program: its arguments end unchanged, its result is the normalised logits of some admitted results of the first call,
    and every semaphore ends at zero. -/
theorem run_main (hP : P.Sound a (Vat m)) (hT : words a = m (((0 : Dev nD) : Thread nD τ).loc main_arg0)) (g : Dev nD → PrngReg) :
    θ_run (defs (F := F)) (onTc (τ := τ) (main (F := F))) ⟨m, fun _ => 0, g⟩
      (fun r => (∃ o : Vec F S1x1000000 .f32 × Vec F S8x128 .f32, Out0 P o.1 o.2
          ∧ r.2.mem (((0 : Dev nD) : Thread nD τ).loc main_v7) = normalised o.1 o.2)
        ∧ (∀ c : Dev nD,
          r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5))
        ∧ r.2.sem = fun _ => 0) := by
  have hT' : words a = Vat m (Proc.devRef .tc main_arg0) := hT.trans (Vat_of m main_arg0 (by decide) (by decide) (by decide)).symm
  refine (θ_run defs _ _).mono ?_ (HostLoop.θ_run_of_lift (fun l => l.elim0) defs main _ _ (run_lifted P a m hP hT' g))
  rintro r ⟨⟨o, ho, hb⟩, hs⟩
  have hat : ∀ b : Ref sig .tc, b ∉ hostOps0_W → b ∉ hostOps0_1_W → b ∉ hostOps0_2_W → b ≠ main_v6_0 → b ≠ main_v6_1 → b ≠ main_v7 →
      ¬ (Proc.devRef (τ := τ) .tc b).isScoped = true → r.2.mem (((0 : Dev nD) : Thread nD τ).loc b) = m (((0 : Dev nD) : Thread nD τ).loc b) := fun b h0 h1 h2 h6 h61 h7 hu =>
    (hb (Proc.devRef .tc b) (Finset.mem_filter.mpr ⟨StableHlo.devRef_mem_tcRefs b, hu⟩)).trans
      ((atEnd_of m o b h6 h61 h7).trans (Vat_of m b h0 h1 h2))
  refine ⟨⟨o, ho, ?_⟩, fun c => ?_, hs⟩
  · exact (hb (Proc.devRef .tc main_v7) (Finset.mem_filter.mpr ⟨StableHlo.devRef_mem_tcRefs main_v7, by decide⟩)).trans (atEnd_v7 m o)
  · obtain rfl : c = 0 := Subsingleton.elim _ _
    exact ⟨hat main_arg0 (by decide) (by decide) (by decide) (by decide) (by decide) (by decide) (by decide),
      hat main_arg1 (by decide) (by decide) (by decide) (by decide) (by decide) (by decide) (by decide),
      hat main_arg2 (by decide) (by decide) (by decide) (by decide) (by decide) (by decide) (by decide),
      hat main_arg3 (by decide) (by decide) (by decide) (by decide) (by decide) (by decide) (by decide),
      hat main_arg4 (by decide) (by decide) (by decide) (by decide) (by decide) (by decide) (by decide),
      hat main_arg5 (by decide) (by decide) (by decide) (by decide) (by decide) (by decide) (by decide)⟩

end Cert.Pass1
-- ==== Proof.Words.lean ====
module

public import proofs.«01_k».proof.Proof.Data
public import proofs.«01_k».proof.Pre_known_words
public import Idealize.ShloMosaic.Lib.Routing.Words

@[expose] public section

noncomputable section

namespace Cert.Pass1

open Cert.KernelIdeal Cert.KernelIdeal.Gen
open Idealize.ShloMosaic

variable {F : FTy → Type} [FloatOps F]

/-- The tile that a word's row lies in, as the index maps compute it: the word divided by 128, rounded down. -/
def tileOf (w : BitVec 32) : BitVec 32 :=
  Scalar.select
    (Scalar.andi
      (Scalar.cmpi .ne (Scalar.subi (Scalar.extui (Scalar.cmpi .sgt w 0#32)) (Scalar.extui (Scalar.cmpi .slt w 0#32)))
        (Scalar.subi (Scalar.extui (Scalar.cmpi .sgt 128#32 0#32)) (Scalar.extui (Scalar.cmpi .slt 128#32 0#32))))
      (Scalar.cmpi .ne (Scalar.remsi w 128#32) 0#32))
    (Scalar.subi (Scalar.divsi w 128#32) 1#32) (Scalar.divsi w 128#32)

/-- The lane of its tile that a word's row lies in, as the body computes it: the word modulo 128. -/
def laneOf (w : BitVec 32) : BitVec 32 :=
  Scalar.select
    (Scalar.andi (Scalar.xori (Scalar.cmpi .slt (Scalar.remsi w 128#32) 0#32) 0#1) (Scalar.cmpi .ne (Scalar.remsi w 128#32) 0#32))
    (Scalar.addi (Scalar.remsi w 128#32) 128#32) (Scalar.remsi w 128#32)

theorem tileOf_word {n : ℕ} (h : n < 1000000) : tileOf (BitVec.ofNat 32 n) = BitVec.ofNat 32 (n / 128) := by
  have hd : Scalar.divsi (BitVec.ofNat 32 n) 128#32 = BitVec.ofNat 32 (n / 128) := Routing.divsi_word _ (by omega) (by decide) (by decide)
  have hr : Scalar.remsi (BitVec.ofNat 32 n) 128#32 = BitVec.ofNat 32 (n % 128) := Routing.remsi_word _ (by omega) (by decide) (by decide)
  unfold tileOf
  rw [hd, hr]
  by_cases h0 : n = 0
  · subst h0; decide
  · have e1 : Scalar.cmpi .sgt (BitVec.ofNat 32 n) 0#32 = 1#1 := by
      show BitVec.ofBool ((BitVec.ofNat 32 0).slt (BitVec.ofNat 32 n)) = 1#1
      rw [Routing.slt_ofNat32 (by decide) (by omega), decide_eq_true (by omega : 0 < n)]; rfl
    have e2 : Scalar.cmpi .slt (BitVec.ofNat 32 n) 0#32 = 0#1 := by
      show BitVec.ofBool ((BitVec.ofNat 32 n).slt (BitVec.ofNat 32 0)) = 0#1
      rw [Routing.slt_ofNat32 (by omega) (by decide)]; rfl
    rw [e1, e2]
    generalize Scalar.cmpi .ne (BitVec.ofNat 32 (n % 128)) 0#32 = z
    generalize BitVec.ofNat 32 (n / 128) = q
    rw [show Scalar.andi (Scalar.cmpi .ne (Scalar.subi (Scalar.extui 1#1) (Scalar.extui 0#1))
      (Scalar.subi (Scalar.extui (Scalar.cmpi .sgt 128#32 0#32)) (Scalar.extui (Scalar.cmpi .slt 128#32 0#32)))) z = 0#1 by revert z; decide]
    rfl

theorem laneOf_word {n : ℕ} (h : n < 1000000) : laneOf (BitVec.ofNat 32 n) = BitVec.ofNat 32 (n % 128) := by
  have hr : Scalar.remsi (BitVec.ofNat 32 n) 128#32 = BitVec.ofNat 32 (n % 128) := Routing.remsi_word _ (by omega) (by decide) (by decide)
  unfold laneOf
  rw [hr]
  have hm := Nat.mod_lt n (show 0 < 128 by decide)
  generalize n % 128 = r at hm
  interval_cases r <;> decide

/-- Every word names a row of the table. -/
def Known (T : IVec S4 32) : Prop := ∀ k, (T k).toNat < 1000000

theorem lt_of_cmpi {w : BitVec 32} (h0 : IntOp.cmpi .sge w 0#32 = 1#1) (h1 : IntOp.cmpi .slt w 1000000#32 = 1#1) : w.toNat < 1000000 := by
  have of_one (b : Bool) (h : BitVec.ofBool b = 1#1) : b = true := by revert b; decide
  have h0' := of_one _ h0
  have h1' := of_one _ h1
  simp only [BitVec.sle, BitVec.slt, decide_eq_true_eq, BitVec.toInt, BitVec.toNat_ofNat] at h0' h1'
  have := w.isLt
  split at h0' <;> split at h1' <;> omega

theorem known_of_pre [Cert.Pre_known_words.Facts] {T : IVec S4 32} {x1 : FVec F S1000000x64 .f32} {x2 : FVec F S256x128 .f32} {x3 : FVec F S128 .f32}
    {x4 : FVec F S128x1000000 .f32} {x5 : FVec F S1000000 .f32} (h : Cert.Pre_known_words.fn (F := F) T x1 x2 x3 x4 x5 = fun _ => 1#1) : Known T := by
  intro k
  have andi_one (a b : BitVec 1) : IntOp.andi a b = 1#1 ↔ a = 1#1 ∧ b = 1#1 := by revert a b; decide
  have pre := congrFun h k
  simp only [Cert.Pre_known_words.fn, constantI, broadcastInDim, cmpi, andi, andi_one] at pre
  exact lt_of_cmpi pre.1 pre.2

theorem tile_inside {w : BitVec 32} (h : w.toNat < 1000000) : ∀ x : Fin 2, ((![0, (tileOf w).toNat] : Fin 2 → ℕ) x + 1) * S64x128.size x ≤ S64x1000064.size x := by
  have hw : tileOf w = BitVec.ofNat 32 (w.toNat / 128) := by
    have := tileOf_word h
    rwa [BitVec.ofNat_toNat, BitVec.setWidth_eq] at this
  rw [hw, BitVec.toNat_ofNat, Nat.mod_eq_of_lt (by omega)]
  intro x
  match x with
  | ⟨0, _⟩ => exact (by decide : (0 + 1) * 64 ≤ 64)
  | ⟨1, _⟩ => exact (show (w.toNat / 128 + 1) * 128 ≤ 1000064 by omega)

/-- The index of the table that a map reads. -/
abbrev reads4 (k : Fin 4) (h : ∀ a, (![k.val] : Fin 1 → ℕ) a + S1.size a ≤ S4.size a) : S4.Idx :=
  (Rect.unit (s := S4) ![k.val] S1.size h).emb (Shape.Idx.first (numel1_S1.symm ▸ Nat.one_pos))

theorem reads4_eq (k : Fin 4) (h : ∀ a, (![k.val] : Fin 1 → ℕ) a + S1.size a ≤ S4.size a) : reads4 k h = slot4 k := by
  funext a
  refine Fin.ext ?_
  obtain rfl : a = 0 := Subsingleton.elim _ _
  show k.val + 1 * 0 = k.val
  omega

theorem transform0 (pf : pre0.Contents (Elt F)) (i : grid0.Coords) :
    cc0_transform_0 inb_S4_S1_0 numel1_S1 pf i = ![0, (tileOf ((pf 0 : IVec S4 32) (slot4 0))).toNat] := by
  rw [← reads4_eq 0 inb_S4_S1_0]; rfl
theorem transform1 (pf : pre0.Contents (Elt F)) (i : grid0.Coords) :
    cc0_transform_1 inb_S4_S1_1 numel1_S1 pf i = ![0, (tileOf ((pf 0 : IVec S4 32) (slot4 1))).toNat] := by
  rw [← reads4_eq 1 inb_S4_S1_1]; rfl
theorem transform2 (pf : pre0.Contents (Elt F)) (i : grid0.Coords) :
    cc0_transform_2 inb_S4_S1_2 numel1_S1 pf i = ![0, (tileOf ((pf 0 : IVec S4 32) (slot4 2))).toNat] := by
  rw [← reads4_eq 2 inb_S4_S1_2]; rfl
theorem transform3 (pf : pre0.Contents (Elt F)) (i : grid0.Coords) :
    cc0_transform_3 inb_S4_S1_3 numel1_S1 pf i = ![0, (tileOf ((pf 0 : IVec S4 32) (slot4 3))).toNat] := by
  rw [← reads4_eq 3 inb_S4_S1_3]; rfl

theorem ok_of_known (pf : pre0.Contents (Elt F)) (h : Known (pf 0 : IVec S4 32)) : ok0 pf :=
  ⟨fun i => ⟨by rw [transform0]; exact tile_inside (h _), .inl rfl⟩, fun i => ⟨by rw [transform1]; exact tile_inside (h _), .inl rfl⟩,
    fun i => ⟨by rw [transform2]; exact tile_inside (h _), .inl rfl⟩, fun i => ⟨by rw [transform3]; exact tile_inside (h _), .inl rfl⟩⟩

/-- The first call's table at known words. -/
def table (T : IVec S4 32) (h : Known T) : Adm0 F :=
  ⟨fun k => match k with | ⟨0, _⟩ => T, ok_of_known _ h⟩

end Cert.Pass1
-- ==== Proof.Frames.lean ====
module

public import proofs.«01_k».proof.Defs
public import proofs.«01_k».proof.Proof.Gen.Kernel
public import proofs.«01_k».proof.Proof.Run
public import proofs.«01_k».proof.Proof.Words
public import proofs.«01_k».proof.Proof.Gen.ReferenceIdeal
public import proofs.«01_k».proof.Proof.Gen.ReferenceIdeal.Run

@[expose] public section

noncomputable section

namespace Cert.Pass1

open Cert.KernelIdeal Cert.KernelIdeal.Gen

open Idealize.ShloMosaic
open Idealize.ShloMosaic.TcCoe
open Idealize.SL.Sem

variable {F : FTy → Type} [FloatOps F]

/-- At known words, the program runs, ends with its arguments unchanged and every counter at zero. -/
theorem frame_known (m : (ℓ : Loc nD τ sig) → Buf (Elt F) ℓ) (hT : Known (m (((0 : Dev nD) : Thread nD τ).loc main_arg0)))
    (g : Dev nD → PrngReg) :
    θ_run (defs (F := F)) (onTc (τ := τ) (main (F := F))) ⟨m, fun _ => 0, g⟩
      (fun r => (∀ c : Dev nD,
          r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5))
        ∧ r.2.sem = fun _ => 0) :=
  (θ_run defs _ _).mono (fun _ h => h.2)
    (run_main Spec.none (table _ hT) m (Spec.none_sound (table _ hT) (Vat m)) rfl g)

end Cert.Pass1

namespace Cert.Proof

open Idealize.ShloMosaic Idealize.SL.Sem

theorem words_facts : Cert.Pre_known_words.Facts := ⟨by decide⟩

theorem frame_KernelIdeal : Cert.quiescent_KernelIdeal (hKernelIdeal := Cert.KernelIdeal.Gen.facts) (hPre_known_words := words_facts) :=
  fun m g h => Cert.Pass1.frame_known m (letI := words_facts; Cert.Pass1.known_of_pre (h 0)) g

theorem frame_ReferenceIdeal : Cert.quiescent_ReferenceIdeal (hReferenceIdeal := Cert.ReferenceIdeal.Gen.facts) :=
  fun m g _ => (θ_run Cert.ReferenceIdeal.defs _ _).mono
    (fun r h => ⟨fun c => (h c).2, sem_eq_zero_of_no_sems (by decide) r.2⟩) (Cert.ReferenceIdeal.Value.run m g)

end Cert.Proof

end
-- ==== Proof.Twin.lean ====
module

public import proofs.«01_k».proof.Defs
public import proofs.«01_k».proof.Proof.Gen.Kernel
public import proofs.«01_k».proof.Proof.Frames

@[expose] public section

noncomputable section

namespace Cert.Twin

open Idealize.ShloMosaic
open Idealize.ShloMosaic.TcCoe
open Idealize.SL.Sem

/-! The kernel as written and its idealized copy are one text over two names, so at one float type they
are one program; the run of the second carries over to the first. -/

/-- Eight host operations, then the two launches. -/
def hosted {nD : ℕ} {τ : Topo} {sig : RefSig} {Λ : Labels} (o : Fin 8 → HloOp τ sig (Elt Bits))
    (pcs : Fin 2 → Pipeline.PCfg sig Λ (Elt Bits)) :
    Dev nD → Prog (TpuEff nD τ sig (Elt Bits) (Pipeline.Sig Λ (Fin 2) fun p => (pcs p).Adm) .tc) PUnit := fun _ => do
  hlo rfl (o 0) (fun _ => .ret ⟨⟩)
  hlo rfl (o 1) (fun _ => .ret ⟨⟩)
  hlo rfl (o 2) (fun _ => .ret ⟨⟩)
  hlo rfl (o 3) (fun _ => .ret ⟨⟩)
  hlo rfl (o 4) (fun _ => .ret ⟨⟩)
  hlo rfl (o 5) (fun _ => .ret ⟨⟩)
  hlo rfl (o 6) (fun _ => .ret ⟨⟩)
  hlo rfl (o 7) (fun _ => .ret ⟨⟩)
  Prog.lift (.customCall (Pipeline.entry 0) ())
  Prog.lift (.customCall (Pipeline.entry 1) ())
  pure ⟨⟩
section
open Cert.Kernel Cert.Kernel.Gen
def ops : Fin 8 → HloOp τ sig (Elt Bits) := ![
  (StableHlo.unary main_arg1 main_v0 ((transpose S64x1000000 [1, 0] · transposes_S1000000x64_S64x1000000_1_0) : (⟨S1000000x64, .f32⟩ : BufTy).Contents (Elt Bits) → (⟨S64x1000000, .f32⟩ : BufTy).Contents (Elt Bits))),
  (StableHlo.nullary main_c (constantI S_ 32 0#32)),
  (StableHlo.TRef.unary (.of main_c : StableHlo.TRef sig ⟨S_, .i32⟩) main_call0.v0 (sitofp .f32 : IVec S_ 32 → FVec Bits S_ .f32)),
  (StableHlo.TRef.binary (.of main_v0 : StableHlo.TRef sig ⟨S64x1000000, .f32⟩) main_call0.v0 main_call0.v1 (fun x v => pad S64x1000064 ![0, 0] ![0, 64] ![0, 0] x v pads_S64x1000000_S64x1000064_000_0640 h_S_)),
  (StableHlo.unary main_arg4 main_v2 ((transpose S1000000x128 [1, 0] · transposes_S128x1000000_S1000000x128_1_0) : (⟨S128x1000000, .f32⟩ : BufTy).Contents (Elt Bits) → (⟨S1000000x128, .f32⟩ : BufTy).Contents (Elt Bits))),
  (StableHlo.reshape main_arg2 main_v3 (rfl : (.f32 : EltTy) = .f32) shapeCasts_S256x128_S4x64x128),
  (StableHlo.reshape main_arg3 main_v4 (rfl : (.f32 : EltTy) = .f32) shapeCasts_S128_S1x128),
  (StableHlo.reshape main_arg5 main_v5 (rfl : (.f32 : EltTy) = .f32) shapeCasts_S1000000_S1x1000000)]
theorem main_eq : main (F := Bits) = hosted ops pcfgs := by exact Eq.refl _
end
section
open Cert.KernelIdeal Cert.KernelIdeal.Gen
def iops : Fin 8 → HloOp τ sig (Elt Bits) := ![
  (StableHlo.unary main_arg1 main_v0 ((transpose S64x1000000 [1, 0] · transposes_S1000000x64_S64x1000000_1_0) : (⟨S1000000x64, .f32⟩ : BufTy).Contents (Elt Bits) → (⟨S64x1000000, .f32⟩ : BufTy).Contents (Elt Bits))),
  (StableHlo.nullary main_c (constantI S_ 32 0#32)),
  (StableHlo.TRef.unary (.of main_c : StableHlo.TRef sig ⟨S_, .i32⟩) main_call0.v0 (sitofp .f32 : IVec S_ 32 → FVec Bits S_ .f32)),
  (StableHlo.TRef.binary (.of main_v0 : StableHlo.TRef sig ⟨S64x1000000, .f32⟩) main_call0.v0 main_call0.v1 (fun x v => pad S64x1000064 ![0, 0] ![0, 64] ![0, 0] x v pads_S64x1000000_S64x1000064_000_0640 h_S_)),
  (StableHlo.unary main_arg4 main_v2 ((transpose S1000000x128 [1, 0] · transposes_S128x1000000_S1000000x128_1_0) : (⟨S128x1000000, .f32⟩ : BufTy).Contents (Elt Bits) → (⟨S1000000x128, .f32⟩ : BufTy).Contents (Elt Bits))),
  (StableHlo.reshape main_arg2 main_v3 (rfl : (.f32 : EltTy) = .f32) shapeCasts_S256x128_S4x64x128),
  (StableHlo.reshape main_arg3 main_v4 (rfl : (.f32 : EltTy) = .f32) shapeCasts_S128_S1x128),
  (StableHlo.reshape main_arg5 main_v5 (rfl : (.f32 : EltTy) = .f32) shapeCasts_S1000000_S1x1000000)]
theorem imain_eq : main (F := Bits) = hosted iops pcfgs := by exact Eq.refl _
end

theorem ops_eq : ops = iops := by
  funext k
  match k with
  | 0 | 1 | 2 | 3 | 4 | 5 | 6 | 7 => exact Eq.refl _

theorem pcfgs_eq : Cert.Kernel.pcfgs (F := Bits) = Cert.KernelIdeal.pcfgs (F := Bits) := by exact Eq.refl _

theorem defs₀_eq : Cert.Kernel.defs₀ (F := Bits) = Cert.KernelIdeal.defs₀ (F := Bits) :=
  congrArg (Defs.onTc (nD := Cert.Kernel.nD) (τ := Cert.Kernel.τ) (sig := Cert.Kernel.sig) (Λ := Cert.Kernel.Λ₀) (Val := Elt Bits))
    (funext fun ℓ => funext fun a => by
      match ℓ, a with
      | 0, (t, s) => rfl
      | 1, (t, s) => rfl)

/-- A run of the whole program, by its host operations, its pipelines and its bodies. -/
def Runs {nD : ℕ} {τ : Topo} {sig : RefSig} {Λ : Labels} (o : Fin 8 → HloOp τ sig (Elt Bits))
    (pcs : Fin 2 → Pipeline.PCfg sig Λ (Elt Bits)) (d : Defs nD τ sig (Elt Bits) Λ)
    (s : MemSt nD τ sig (Elt Bits)) (Q : PUnit × MemSt nD τ sig (Elt Bits) → Prop) : Prop :=
  θ_run (Pipeline.defs pcs d) (onTc (τ := τ) (hosted o pcs)) s Q

theorem Runs.congr {nD : ℕ} {τ : Topo} {sig : RefSig} {Λ : Labels} {o o' : Fin 8 → HloOp τ sig (Elt Bits)}
    {pcs pcs' : Fin 2 → Pipeline.PCfg sig Λ (Elt Bits)} {d d' : Defs nD τ sig (Elt Bits) Λ} (ho : o = o') (hp : pcs = pcs')
    (hd : d = d') : Runs o' pcs' d' = Runs o pcs d := by
  subst ho hp hd
  rfl

theorem runs_of {s : MemSt Cert.Kernel.nD Cert.Kernel.τ Cert.Kernel.sig (Elt Bits)} {Q}
    (h : Runs (nD := Cert.Kernel.nD) (τ := Cert.Kernel.τ) (sig := Cert.Kernel.sig) (Λ := Cert.Kernel.Λ₀) iops
      (Cert.KernelIdeal.pcfgs (F := Bits)) (Cert.KernelIdeal.defs₀ (F := Bits)) s Q) :
    θ_run (Cert.Kernel.defs (F := Bits)) (onTc (τ := Cert.Kernel.τ) (Cert.Kernel.main (F := Bits))) s Q := by
  rw [main_eq]
  exact (congrFun (congrFun (Runs.congr ops_eq pcfgs_eq defs₀_eq) s) Q).mp h

theorem iruns_of {s : MemSt Cert.KernelIdeal.nD Cert.KernelIdeal.τ Cert.KernelIdeal.sig (Elt Bits)} {Q}
    (h : θ_run (Cert.KernelIdeal.defs (F := Bits)) (onTc (τ := Cert.KernelIdeal.τ) (Cert.KernelIdeal.main (F := Bits))) s Q) :
    Runs iops (Cert.KernelIdeal.pcfgs (F := Bits)) (Cert.KernelIdeal.defs₀ (F := Bits)) s Q := by
  rw [imain_eq] at h
  exact h

theorem frame_Kernel : Cert.quiescent_Kernel (hKernel := Cert.Kernel.Gen.facts) (hPre_known_words := Cert.Proof.words_facts) :=
  fun m g h => runs_of (iruns_of (Cert.Pass1.frame_known (F := Bits) m (letI := Cert.Proof.words_facts; Cert.Pass1.known_of_pre (h 0)) g))

end Cert.Twin
-- ==== Proof.Online.lean ====
module

public import Idealize.ShloMosaic.PureOps.Ideal
public import Idealize.ShloMosaic.PureOps.Ideal.Laws

@[expose] public section

noncomputable section

/-! A maximum and a sum of exponentials, kept block by block over the extended reals. -/

namespace Cert.Online

open Idealize.ShloMosaic
open scoped BigOperators

/-- An extended real that is a real number. -/
def IsReal (x : EReal) : Prop := ∃ r : ℝ, x = (r : EReal)

theorem IsReal.add {x y : EReal} : IsReal x → IsReal y → IsReal (x + y) := by
  rintro ⟨a, rfl⟩ ⟨b, rfl⟩; exact ⟨a + b, (EReal.coe_add a b).symm⟩

theorem IsReal.mul {x y : EReal} : IsReal x → IsReal y → IsReal (x * y) := by
  rintro ⟨a, rfl⟩ ⟨b, rfl⟩; exact ⟨a * b, (EReal.coe_mul a b).symm⟩

theorem IsReal.max {x y : EReal} (hx : IsReal x) (hy : IsReal y) : IsReal (max x y) := by
  rcases max_choice x y with h | h <;> rw [h] <;> assumption

theorem IsReal.zero : IsReal 0 := ⟨0, rfl⟩

theorem IsReal.sum {ι : Type} (s : Finset ι) {f : ι → EReal} (h : ∀ i, IsReal (f i)) : IsReal (∑ i ∈ s, f i) := by
  classical
  induction s using Finset.induction_on with
  | empty => exact IsReal.zero
  | insert a s ha ih => rw [Finset.sum_insert ha]; exact (h a).add ih

theorem IsReal.of_lt {x : EReal} (h₁ : ⊥ < x) (h₂ : x < ⊤) : IsReal x :=
  ⟨x.toReal, (EReal.coe_toReal h₂.ne h₁.ne').symm⟩

/-- The weight of a value: its exponential, as a real number. -/
def weight (x : EReal) : ℝ := (Ideal.exp x).toReal

theorem weight_bot : weight ⊥ = 0 := by simp [weight]
theorem weight_coe (r : ℝ) : weight (r : EReal) = Real.exp r := by simp [weight]

/-- What may stand in a block: a real number, or nothing. -/
def Entry (x : EReal) : Prop := x = ⊥ ∨ IsReal x

theorem exp_sub {x : EReal} (h : Entry x) (μ : ℝ) : Ideal.exp (x - (μ : EReal)) = ((weight x * Real.exp (-μ) : ℝ) : EReal) := by
  rcases h with rfl | ⟨r, rfl⟩
  · rw [weight_bot, zero_mul, EReal.bot_sub, Ideal.exp_bot, EReal.coe_zero]
  · rw [weight_coe, ← Real.exp_add, ← EReal.coe_sub, Ideal.exp_coe, sub_eq_add_neg]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of exponentials from which `μ` is taken, as a real number. -/
theorem sum_exp_sub {ι : Type} (s : Finset ι) {f : ι → EReal} (h : ∀ i, Entry (f i)) (μ : ℝ) :
    ∑ i ∈ s, Ideal.exp (f i - (μ : EReal)) = (((∑ i ∈ s, weight (f i)) * Real.exp (-μ) : ℝ) : EReal) := by
  rw [Finset.sum_mul, coe_sum]
  exact Finset.sum_congr rfl fun i _ => exp_sub (h i) μ

/-- `μ` is the largest of the first `n` values. -/
structure Largest (y : ℕ → EReal) (n : ℕ) (μ : EReal) : Prop where
  le : ∀ c, c < n → y c ≤ μ
  attained : ∃ c, c < n ∧ y c = μ

theorem Largest.unique {y : ℕ → EReal} {n : ℕ} {μ ν : EReal} (h : Largest y n μ) (h' : Largest y n ν) : μ = ν := by
  obtain ⟨c, hc, rfl⟩ := h.attained
  obtain ⟨d, hd, rfl⟩ := h'.attained
  exact le_antisymm (h'.le c hc) (h.le d hd)

/-- The largest value of a block of `b` that begins at `n`. -/
theorem largest_sup {b : ℕ} (hb : 0 < b) (f : ℕ → EReal) : Largest f b (Finset.univ.sup fun k : Fin b => f k.val) := by
  refine ⟨fun c hc => Finset.le_sup (f := fun k : Fin b => f k.val) (Finset.mem_univ (⟨c, hc⟩ : Fin b)), ?_⟩
  have : Nonempty (Fin b) := ⟨⟨0, hb⟩⟩
  obtain ⟨k, _, hk⟩ := Finset.exists_mem_eq_sup (Finset.univ : Finset (Fin b)) Finset.univ_nonempty (fun k : Fin b => f k.val)
  exact ⟨k.val, k.isLt, hk.symm⟩

theorem Largest.append {y : ℕ → EReal} {n b : ℕ} {μ ν : EReal} (h : Largest y n μ) (h' : Largest (fun k => y (n + k)) b ν) :
    Largest y (n + b) (max μ ν) := by
  refine ⟨fun c hc => ?_, ?_⟩
  · rcases Nat.lt_or_ge c n with hn | hn
    · exact (h.le c hn).trans (le_max_left _ _)
    · have := h'.le (c - n) (by omega)
      rw [show n + (c - n) = c by omega] at this
      exact this.trans (le_max_right _ _)
  · rcases max_choice μ ν with e | e <;> rw [e]
    · obtain ⟨c, hc, e⟩ := h.attained; exact ⟨c, by omega, e⟩
    · obtain ⟨c, hc, e⟩ := h'.attained; exact ⟨n + c, by omega, e⟩

theorem Largest.entry {y : ℕ → EReal} {n : ℕ} {μ : EReal} (h : Largest y n μ) (hr : ∃ c, c < n ∧ IsReal (y c))
    (he : ∀ c, Entry (y c)) : IsReal μ := by
  obtain ⟨d, hd, r, hr⟩ := hr
  obtain ⟨c, hc, rfl⟩ := h.attained
  rcases he c with e | e
  · have := h.le d hd
    rw [e, hr] at this
    exact absurd this (by simp)
  · exact e

/-- After the first `n` values: `m` is the largest and `s` the sum of the exponentials of the values less `m`. -/
structure Held (y : ℕ → EReal) (n : ℕ) (m s : EReal) : Prop where
  largest : Largest y n m
  real : IsReal m
  sum : s = (((∑ c ∈ Finset.range n, weight (y c)) * Real.exp (-m.toReal) : ℝ) : EReal)

/-- The block's own largest value and sum. -/
theorem Held.block {y : ℕ → EReal} {b : ℕ} {ν : EReal} (hν : Largest y b ν) (hr : ∃ c, c < b ∧ IsReal (y c)) (he : ∀ c, Entry (y c)) :
    Held y b ν (∑ k : Fin b, Ideal.exp (y k.val - ν)) := by
  obtain ⟨r, rfl⟩ := hν.entry hr he
  refine ⟨hν, ⟨r, rfl⟩, ?_⟩
  rw [sum_exp_sub _ (fun k : Fin b => he k.val), EReal.toReal_coe, Finset.sum_range]

theorem rescale (W μ ρ : ℝ) : (((W * Real.exp (-μ) : ℝ) : EReal)) * Ideal.exp ((μ : EReal) - (ρ : EReal)) = ((W * Real.exp (-ρ) : ℝ) : EReal) := by
  rw [← EReal.coe_sub, Ideal.exp_coe, ← EReal.coe_mul, mul_assoc, ← Real.exp_add]
  congr 3; ring

/-- One more block. -/
theorem Held.step {y : ℕ → EReal} {n b : ℕ} {m s ν u : EReal} (h : Held y n m s) (h' : Held (fun k => y (n + k)) b ν u) :
    Held y (n + b) (max m ν) (s * Ideal.exp (m - max m ν) + u * Ideal.exp (ν - max m ν)) := by
  obtain ⟨μ, rfl⟩ := h.real
  obtain ⟨κ, rfl⟩ := h'.real
  have hm : IsReal (max (μ : EReal) (κ : EReal)) := h.real.max h'.real
  refine ⟨h.largest.append h'.largest, hm, ?_⟩
  obtain ⟨ρ, e⟩ := hm
  rw [e, h.sum, h'.sum, EReal.toReal_coe, EReal.toReal_coe, EReal.toReal_coe, rescale, rescale, ← EReal.coe_add, ← add_mul,
    Finset.sum_range_add]

/-- The first block, from nothing. -/
theorem Held.first {y : ℕ → EReal} {b : ℕ} {ν u : EReal} (h : Held y b ν u) :
    Held y b (max ⊥ ν) (0 * Ideal.exp (⊥ - max ⊥ ν) + u * Ideal.exp (ν - max ⊥ ν)) := by
  obtain ⟨κ, rfl⟩ := h.real
  rw [max_eq_right bot_le, zero_mul, zero_add]
  refine ⟨h.largest, h.real, ?_⟩
  rw [h.sum, EReal.toReal_coe, rescale]

/-- The normalised value, in the two orders of subtraction. -/
theorem normalise {y : ℕ → EReal} {n : ℕ} {m s : EReal} (h : Held y n m s) {x : EReal} (hx : IsReal x) (he : ∀ c, Entry (y c)) :
    x - (m + Ideal.log s) = (x - m) - Ideal.log s := by
  obtain ⟨μ, rfl⟩ := h.real
  obtain ⟨r, rfl⟩ := hx
  have hpos : 0 < (∑ c ∈ Finset.range n, weight (y c)) * Real.exp (-(μ : EReal).toReal) := by
    refine mul_pos ?_ (Real.exp_pos _)
    obtain ⟨c, hc, e⟩ := h.largest.attained
    refine Finset.sum_pos' (fun d _ => ?_) ⟨c, Finset.mem_range.mpr hc, ?_⟩
    · rcases he d with e | ⟨q, e⟩ <;> rw [e]
      · exact weight_bot.ge
      · rw [weight_coe]; exact (Real.exp_pos _).le
    · rw [e, weight_coe]; exact Real.exp_pos _
  rw [h.sum, Ideal.log_coe, if_neg (not_le.mpr hpos), ← EReal.coe_add, ← EReal.coe_sub, ← EReal.coe_sub, ← EReal.coe_sub]
  congr 1; ring

end Cert.Online

end
-- ==== Proof.Step.lean ====
module

public import proofs.«01_k».proof.Proof.Body
public import proofs.«01_k».proof.Proof.Online
public import proofs.«01_k».proof.Proof.Region1
public import Idealize.ShloMosaic.Lib.Pointwise
public import Idealize.ShloMosaic.Lib.Routing.BitFacts

@[expose] public section

noncomputable section

namespace Cert.Pass1

open Cert.KernelIdeal Cert.KernelIdeal.Gen
open Idealize.ShloMosaic Idealize.ShloMosaic.Pointwise
open scoped BigOperators

theorem word_bot : Ideal.ofBits .f32 0xFF800000#32 = ⊥ := by
  unfold Ideal.ofBits; simp; decide

theorem word_top : Ideal.ofBits .f32 0x7F800000#32 = ⊤ := by
  unfold Ideal.ofBits; simp; decide

/-- A maximum over a row that is read through a leading axis of one. -/
theorem fold_row {n : ℕ} (f : Fin n → EReal) :
    Finset.fold max (Ideal.ofBits .f32 0xFF800000#32) (fun x : Fin 1 × Fin n => f x.2) Finset.univ = Finset.univ.sup f := by
  rw [word_bot]
  exact le_antisymm (Finset.sup_le fun x _ => Finset.le_sup (f := f) (Finset.mem_univ x.2))
    (Finset.sup_le fun k _ => Finset.le_sup (f := fun x : Fin 1 × Fin n => f x.2) (Finset.mem_univ ((0 : Fin 1), k)))

/-- A block's logits: the hidden row against each row of the block, and the bias. -/
theorem logits_apply (h : Row Ideal) (w2 : Vec Ideal S32768x128 .f32) (b2 : Vec Ideal S1x32768 .f32) (c : Fin 32768) :
    k0_pay10 h w2 b2 (ix2 0 c) = (∑ k : Fin 128, h (ix2 0 k) * w2 (ix2 c k)) + b2 (ix2 0 c) := by
  pointwise [k0_pay10]

theorem masked_apply (i : grid0.Coords) (h : Row Ideal) (w2 : Vec Ideal S32768x128 .f32) (b2 : Vec Ideal S1x32768 .f32) (c : Fin 32768) :
    k0_pay11 i h w2 b2 (ix2 0 c) = if (i 0).val * 32768 + c.val < 1000000 then k0_pay10 h w2 b2 (ix2 0 c) else ⊥ := by
  have hi : (i 0).val < 31 := (i 0).isLt
  have hc := c.isLt
  have e : IntOp.addi (Scalar.muli (BitVec.ofNat 32 (i 0).val) 32768#32) (BitVec.ofNat 32 c.val) = BitVec.ofNat 32 ((i 0).val * 32768 + c.val) := by
    show BitVec.ofNat 32 (i 0).val * BitVec.ofNat 32 32768 + BitVec.ofNat 32 c.val = _
    rw [BitVec.ofNat_add, BitVec.ofNat_mul]
  have h' : (BitVec.ofNat 32 ((i 0).val * 32768 + c.val)).slt 1000000#32 = decide ((i 0).val * 32768 + c.val < 1000000) :=
    Routing.slt_ofNat32 (by omega) (by omega)
  pointwise [k0_pay11]
  rw [e, word_bot]
  unfold IntOp.cmpi
  simp only [h']
  by_cases hlt : (i 0).val * 32768 + c.val < 1000000
  · simp [hlt, Scalar.select]
  · simp [hlt, Scalar.select]

theorem blockMax_apply (i : grid0.Coords) (h : Row Ideal) (w2 : Vec Ideal S32768x128 .f32) (b2 : Vec Ideal S1x32768 .f32) (l : Fin 128) :
    k0_pay12 i h w2 b2 (ix2 0 l) = Finset.univ.sup fun k : Fin 32768 => k0_pay11 i h w2 b2 (ix2 0 k) := by
  pointwise [k0_pay12]
  exact fold_row fun k => k0_pay11 i h w2 b2 (ix2 0 k)

set_option maxRecDepth 100000 in
theorem blockSum_apply (i : grid0.Coords) (h : Row Ideal) (w2 : Vec Ideal S32768x128 .f32) (b2 : Vec Ideal S1x32768 .f32) (l : Fin 128) :
    k0_pay13 i h w2 b2 (ix2 0 l) = ∑ k : Fin 32768, Ideal.exp (k0_pay11 i h w2 b2 (ix2 0 k) - k0_pay12 i h w2 b2 (ix2 0 l)) := by
  rw [blockMax_apply]
  pointwise [k0_pay13]
  have e := fold_row fun k => k0_pay11 i h w2 b2 (ix2 0 k)
  rw [e]
  exact Fintype.sum_unique _

theorem nextMax_apply (i : grid0.Coords) (h : Row Ideal) (w2 : Vec Ideal S32768x128 .f32) (b2 : Vec Ideal S1x32768 .f32) (m : Row Ideal) (l : Fin 128) :
    nextMax i h w2 b2 m (ix2 0 l) = max (m (ix2 0 l)) (k0_pay12 i h w2 b2 (ix2 0 l)) := by
  pointwise [nextMax, k0_pay14]

theorem nextSum_apply (i : grid0.Coords) (h : Row Ideal) (w2 : Vec Ideal S32768x128 .f32) (b2 : Vec Ideal S1x32768 .f32) (m s : Row Ideal) (l : Fin 128) :
    nextSum i h w2 b2 m s (ix2 0 l) = s (ix2 0 l) * Ideal.exp (m (ix2 0 l) - max (m (ix2 0 l)) (k0_pay12 i h w2 b2 (ix2 0 l)))
      + k0_pay13 i h w2 b2 (ix2 0 l) * Ideal.exp (k0_pay12 i h w2 b2 (ix2 0 l) - max (m (ix2 0 l)) (k0_pay12 i h w2 b2 (ix2 0 l))) := by
  pointwise [nextSum, k0_pay1, k0_pay14, k0_pay15]

theorem normalised_apply (m s : Row Ideal) (X : Vec Ideal S1x1000000 .f32) (c : Fin 1000000) :
    k1_pay1 m s X (ix2 0 c) = X (ix2 0 c) - ((Finset.univ.sup fun k : Fin 128 => m (ix2 0 k)) + Ideal.log (Finset.univ.sup fun k : Fin 128 => s (ix2 0 k))) := by
  pointwise [k1_pay1]
  have em := fold_row fun k : Fin 128 => m (ix2 0 k)
  have es := fold_row fun k : Fin 128 => s (ix2 0 k)
  rw [em, es]
  rfl

theorem first_max (l : Fin 128) : (k0_pay7 (F := Ideal)) (ix2 0 l) = ⊥ := by
  pointwise [k0_pay7]
  exact word_bot

theorem first_sum (l : Fin 128) : (k0_pay9 (F := Ideal) k0_pay8) (ix2 0 l) = 0 := by
  pointwise [k0_pay9, k0_pay8]

end Cert.Pass1

end
-- ==== Proof.Sound.lean ====
module

public import proofs.«01_k».proof.Proof.Data
public import proofs.«01_k».proof.Proof.Step
public import proofs.«01_k».proof.Proof.Online

@[expose] public section

/-! # The first call's passes keep the largest logit and the weights' sum -/

noncomputable section

namespace Cert.Pass1

open Idealize Idealize.ShloMosaic Idealize.ShloMosaic.Pointwise
open Cert.KernelIdeal Cert.KernelIdeal.Gen Cert.Online
open scoped BigOperators

/-- What is known of a launch: its hidden row is `r`, its logits are the numbers `x`, and `x` is the least number past the last column. -/
structure Fits (a : Adm0 Ideal) (V : Valuation τ sig (Elt Ideal)) (r : Row Ideal) (x : ℕ → EReal) : Prop where
  hid : ∀ t, hidden (words a) (in0 a V t) (in1 a V t) (in2 a V t) (in3 a V t) (in4 a V t) (in5 a V t) = r
  inside : ∀ (t : Fin grid0.N) d6 d7 (k : Fin 32768), t.val * 32768 + k.val < 1000000 →
    k0_pay10 r (in6 a V t d6) (in7 a V t d7) (ix2 0 k) = x (t.val * 32768 + k.val)
  outside : ∀ n, 1000000 ≤ n → x n = ⊥
  real : ∀ n, n < 1000000 → IsReal (x n)

theorem Fits.entry {a : Adm0 Ideal} {V : Valuation τ sig (Elt Ideal)} {r : Row Ideal} {x : ℕ → EReal} (h : Fits a V r x) (n : ℕ) : Entry (x n) :=
  (Nat.lt_or_ge n 1000000).elim (fun e => .inr (h.real n e)) fun e => .inl (h.outside n e)

/-- The two rows of a pair of statistics hold, in every lane, the largest of the first `n` logits and their weights' sum. -/
def Pair (x : ℕ → EReal) (n : ℕ) (X : Vec Ideal S8x128 .f32) : Prop :=
  ∃ m s, (∀ l : Fin 128, row0 X (ix2 0 l) = m) ∧ (∀ l : Fin 128, row1 X (ix2 0 l) = s) ∧ Held x n m s

/-- The first call's claim. -/
def online (r : Row Ideal) (x : ℕ → EReal) : Spec Ideal where
  inv n X12 X13 := n = 0 ∨ (row0 X12 = r ∧ Pair x (n * 32768) X13)
  logits t X := ∀ k : Fin 32768, t.val * 32768 + k.val < 1000000 → X (ix2 0 k) = x (t.val * 32768 + k.val)
  stats X := Pair x (31 * 32768) X

theorem coord : ∀ t : Fin grid0.N, (grid0.coords t 0).val = t.val := by decide +kernel
theorem first_iff : ∀ t : Fin grid0.N, atFirst (grid0.coords t) ↔ t.val = 0 := by decide +kernel
theorem last_of : ∀ t : Fin grid0.N, k0_cond2 (grid0.coords t) = 1#1 → t.val = 30 := by decide +kernel

variable {a : Adm0 Ideal} {V : Valuation τ sig (Elt Ideal)} {r : Row Ideal} {x : ℕ → EReal}

/-- The block's largest logit. -/
def top (x : ℕ → EReal) (n : ℕ) : EReal := Finset.univ.sup fun k : Fin 32768 => x (n + k.val)
/-- The block's weights' sum. -/
def total (x : ℕ → EReal) (n : ℕ) : EReal := ∑ k : Fin 32768, Ideal.exp (x (n + k.val) - top x n)

theorem block_held (hF : Fits a V r x) (t : Fin grid0.N) : Held (fun k => x (t.val * 32768 + k)) 32768 (top x (t.val * 32768)) (total x (t.val * 32768)) := by
  have ht : t.val < 31 := t.isLt
  exact Held.block (largest_sup (by decide) fun k => x (t.val * 32768 + k)) ⟨0, by decide, hF.real _ (by omega)⟩ fun c => hF.entry _

theorem masked_eq (hF : Fits a V r x) (t : Fin grid0.N) (d6 d7) (k : Fin 32768) :
    k0_pay11 (grid0.coords t) r (in6 a V t d6) (in7 a V t d7) (ix2 0 k) = x (t.val * 32768 + k.val) := by
  rw [masked_apply, coord]
  split
  · exact hF.inside t d6 d7 k ‹_›
  · exact (hF.outside _ (by omega)).symm

theorem top_eq (hF : Fits a V r x) (t : Fin grid0.N) (d6 d7) (l : Fin 128) :
    k0_pay12 (grid0.coords t) r (in6 a V t d6) (in7 a V t d7) (ix2 0 l) = top x (t.val * 32768) := by
  rw [blockMax_apply]
  exact congrArg (Finset.univ.sup (α := EReal)) (funext fun k => masked_eq hF t d6 d7 k)

theorem total_eq (hF : Fits a V r x) (t : Fin grid0.N) (d6 d7) (l : Fin 128) :
    k0_pay13 (grid0.coords t) r (in6 a V t d6) (in7 a V t d7) (ix2 0 l) = total x (t.val * 32768) := by
  rw [blockSum_apply, top_eq hF]
  exact Finset.sum_congr rfl fun k _ => by rw [masked_eq hF]

/-- A pass from the statistics `m` and `s` leaves the next ones. -/
theorem of_left (hF : Fits a V r x) (t : Fin grid0.N) {d6 d7} {mr sr : Row Ideal} {m s : EReal} {Y10 Y11 Y12 Y13}
    (L : Left (grid0.coords t) (in6 a V t d6) (in7 a V t d7) r mr sr Y10 Y11 Y12 Y13) (hm : ∀ l : Fin 128, mr (ix2 0 l) = m) (hs : ∀ l : Fin 128, sr (ix2 0 l) = s)
    (H : Held x (t.val * 32768 + 32768) (max m (top x (t.val * 32768)))
      (s * Ideal.exp (m - max m (top x (t.val * 32768))) + total x (t.val * 32768) * Ideal.exp (top x (t.val * 32768) - max m (top x (t.val * 32768))))) :
    (online r x).inv (t.val + 1) Y12 Y13 ∧ (online r x).logits t Y10 ∧ (k0_cond2 (grid0.coords t) = 1#1 → (online r x).stats Y11) := by
  have eM (l : Fin 128) : nextMax (grid0.coords t) r (in6 a V t d6) (in7 a V t d7) mr (ix2 0 l) = max m (top x (t.val * 32768)) := by
    rw [nextMax_apply, top_eq hF, hm]
  have eS (l : Fin 128) : nextSum (grid0.coords t) r (in6 a V t d6) (in7 a V t d7) mr sr (ix2 0 l)
      = s * Ideal.exp (m - max m (top x (t.val * 32768))) + total x (t.val * 32768) * Ideal.exp (top x (t.val * 32768) - max m (top x (t.val * 32768))) := by
    rw [nextSum_apply, top_eq hF, total_eq hF, hm, hs]
  refine ⟨.inr ⟨L.hid, _, _, fun l => (congrFun L.mx _).trans (eM l), fun l => (congrFun L.sm _).trans (eS l), ?_⟩, fun k hk => ?_, fun hl => ?_⟩
  · rwa [show (t.val + 1) * 32768 = t.val * 32768 + 32768 by omega]
  · rw [L.logits]
    exact hF.inside t d6 d7 k hk
  · refine ⟨_, _, fun l => (congrFun (L.stats hl).1 _).trans (eM l), fun l => (congrFun (L.stats hl).2 _).trans (eS l), ?_⟩
    have e := last_of t hl
    rwa [show 31 * 32768 = t.val * 32768 + 32768 by omega]

theorem online_sound (hF : Fits a V r x) : (online r x).Sound a V where
  start _ _ := .inl rfl
  step t d6 d7 X12 X13 Y10 Y11 Y12 Y13 hI h1 h2 := by
    have hb := block_held hF t
    by_cases h : atFirst (grid0.coords t)
    · have L := h1 h
      rw [hF.hid t] at L
      have e0 := (first_iff t).mp h
      refine of_left hF t L first_max first_sum ?_
      have hf := hb.first
      rw [e0] at hf ⊢
      simpa only [Nat.zero_mul, Nat.zero_add] using hf
    · have L := h2 h
      rcases hI with e | ⟨e, m, s, hm, hs, H⟩
      · exact absurd ((first_iff t).mpr e) h
      rw [e] at L
      exact of_left hF t L hm hs (H.step hb)

end Cert.Pass1
-- ==== Proof.Host.lean ====
module

public import proofs.«01_k».proof.Proof.Run
public import Idealize.ShloMosaic.Lib.Pointwise
public import Idealize.ShloMosaic.Lib.StableHlo.Run
public import Idealize.ShloMosaic.Lib.Claim

@[expose] public section

/-! # What the launch finds in its arrays: the arguments, transposed, reshaped and padded by the host -/

noncomputable section

namespace Cert.Pass1

open Idealize Idealize.ShloMosaic Idealize.ShloMosaic.Pointwise
open Cert.KernelIdeal Cert.KernelIdeal.Gen

variable {F : FTy → Type} [FloatOps F] (m : (ℓ : Loc nD τ sig) → Buf (Elt F) ℓ)

/-- An argument's contents at launch. -/
abbrev arg (r : Ref sig .tc) : Buf (Elt F) (((0 : Dev nD).tc : Thread nD τ).loc r) := m (((0 : Dev nD).tc : Thread nD τ).loc r)

theorem host_table : (Vat m (Proc.devRef .tc main_v1) : Vec F S64x1000064 .f32)
    = pad S64x1000064 ![0, 0] ![0, 64] ![0, 0] (transpose S64x1000000 [1, 0] (arg m main_arg1 : Vec F S1000000x64 .f32) transposes_S1000000x64_S64x1000000_1_0)
        (sitofp .f32 (constantI S_ 32 0#32)) pads_S64x1000000_S64x1000064_000_0640 h_S_ := by
  show StableHlo.after hostOps0_2 (StableHlo.after hostOps0_1 (StableHlo.after hostOps0 (V0 m 0))) _ = _
  after_results
  try rfl

theorem host_W2 : (Vat m (Proc.devRef .tc main_v2) : Vec F S1000000x128 .f32)
    = transpose S1000000x128 [1, 0] (arg m main_arg4 : Vec F S128x1000000 .f32) transposes_S128x1000000_S1000000x128_1_0 := by
  show StableHlo.after hostOps0_2 (StableHlo.after hostOps0_1 (StableHlo.after hostOps0 (V0 m 0))) _ = _
  after_results
  try rfl

theorem host_W1 : (Vat m (Proc.devRef .tc main_v3) : Vec F S4x64x128 .f32)
    = shapeCast S4x64x128 (arg m main_arg2 : Vec F S256x128 .f32) shapeCasts_S256x128_S4x64x128 := by
  show StableHlo.after hostOps0_2 (StableHlo.after hostOps0_1 (StableHlo.after hostOps0 (V0 m 0))) _ = _
  after_results
  try rfl

theorem host_b1 : (Vat m (Proc.devRef .tc main_v4) : Vec F S1x128 .f32)
    = shapeCast S1x128 (arg m main_arg3 : Vec F S128 .f32) shapeCasts_S128_S1x128 := by
  show StableHlo.after hostOps0_2 (StableHlo.after hostOps0_1 (StableHlo.after hostOps0 (V0 m 0))) _ = _
  after_results
  try rfl

theorem host_b2 : (Vat m (Proc.devRef .tc main_v5) : Vec F S1x1000000 .f32)
    = shapeCast S1x1000000 (arg m main_arg5 : Vec F S1000000 .f32) shapeCasts_S1000000_S1x1000000 := by
  show StableHlo.after hostOps0_2 (StableHlo.after hostOps0_1 (StableHlo.after hostOps0 (V0 m 0))) _ = _
  after_results
  try rfl

theorem table_apply (e : Fin 64) (n : Fin 1000000) (n' : Fin 1000064) (h : n'.val = n.val) :
    (Vat m (Proc.devRef .tc main_v1) : Vec F S64x1000064 .f32) (ix2 e n') = (arg m main_arg1 : Vec F S1000000x64 .f32) (ix2 n e) := by
  rw [host_table]
  have hn := n.isLt
  pointwise []
  exact (dif_pos (show n'.val < 1000000 by omega)).trans (congrArg (fun k => (arg m main_arg1 : Vec F S1000000x64 .f32) (ix2 k e)) (Fin.ext h))

theorem W2_apply (n : Fin 1000000) (k : Fin 128) :
    (Vat m (Proc.devRef .tc main_v2) : Vec F S1000000x128 .f32) (ix2 n k) = (arg m main_arg4 : Vec F S128x1000000 .f32) (ix2 k n) := by
  rw [host_W2]
  pointwise []

theorem W1_apply (k : Fin 4) (e : Fin 64) (h : Fin 128) :
    (Vat m (Proc.devRef .tc main_v3) : Vec F S4x64x128 .f32) (ix3 k e h)
      = (arg m main_arg2 : Vec F S256x128 .f32) (ix2 ⟨k.val * 64 + e.val, by have := k.isLt; have := e.isLt; omega⟩ h) := by
  rw [host_W1]
  pointwise []

theorem b1_apply (h : Fin 128) : (Vat m (Proc.devRef .tc main_v4) : Vec F S1x128 .f32) (ix2 0 h) = (arg m main_arg3 : Vec F S128 .f32) (ix1 h) := by
  rw [host_b1]
  pointwise []

theorem b2_apply (n : Fin 1000000) : (Vat m (Proc.devRef .tc main_v5) : Vec F S1x1000000 .f32) (ix2 0 n) = (arg m main_arg5 : Vec F S1000000 .f32) (ix1 n) := by
  rw [host_b2]
  pointwise []

end Cert.Pass1
-- ==== Proof.Ins.lean ====
module

public import proofs.«01_k».proof.Proof.Data
public import proofs.«01_k».proof.Proof.Region0
public import proofs.«01_k».proof.Proof.Words
public import Idealize.ShloMosaic.Lib.Pointwise

@[expose] public section

/-! # The first call's blocks, read at an index of the array they are cut from -/

noncomputable section

namespace Cert.Pass1

open Idealize Idealize.ShloMosaic Idealize.ShloMosaic.Pointwise
open Cert.KernelIdeal Cert.KernelIdeal.Gen

variable {F : FTy → Type} [FloatOps F] (a : Adm0 F) (V : Valuation τ sig (Elt F)) (t : Fin grid0.N)

/-- A block's entry that the fetch moved is the array's, at the block's offset. -/
theorem held_apply (w : Fin 10) (d : (win0 a w).block.Idx → Elt F (win0 a w).elt) (j : (win0 a w).block.Idx) (h : (win0 a w).moved (grid0.coords t) j = true) :
    held a V w t d j = ((win0 a w).blk t).view.read (Elt F) (V (Proc.devRef .tc (Pipeline.arrRef spec0 w))) (fun ax => ⟨(j ax).val, ((win0 a w).moved_iff _ j).mp h ax⟩) := by
  unfold held Pipeline.Window.fill
  rw [dif_pos h]

theorem in0_apply {T : IVec S4 32} (hT : words a = T) (e : Fin 64) (l : Fin 128) (n : Fin 1000064) (h : n.val = (tileOf (T (slot4 0))).toNat * 128 + l.val) :
    in0 a V t (ix2 e l) = (V (Proc.devRef .tc main_v1) : Vec F S64x1000064 .f32) (ix2 e n) := by
  refine (held_apply a V t 0 _ (ix2 e l) (((win0 a 0).moved_iff _ _).mpr fun ax => (ix2 e l ax).isLt)).trans ?_
  have hi : (win0 a 0).index t = ![0, (tileOf (T (slot4 0))).toNat] := by subst hT; exact transform0 _ (grid0.coords t)
  refine congrArg (V (Proc.devRef .tc main_v1) : Vec F S64x1000064 .f32) (funext fun ax => Fin.ext ?_)
  match ax with
  | ⟨0, _⟩ =>
    blk_simp
    exact (congrArg (fun n => n * 64 + e.val) (congrFun hi (0 : Fin 2))).trans (by show 0 * 64 + e.val = e.val; omega)
  | ⟨1, _⟩ =>
    blk_simp
    exact (congrArg (fun n => n * 128 + l.val) (congrFun hi (1 : Fin 2))).trans h.symm

theorem in1_apply {T : IVec S4 32} (hT : words a = T) (e : Fin 64) (l : Fin 128) (n : Fin 1000064) (h : n.val = (tileOf (T (slot4 1))).toNat * 128 + l.val) :
    in1 a V t (ix2 e l) = (V (Proc.devRef .tc main_v1) : Vec F S64x1000064 .f32) (ix2 e n) := by
  refine (held_apply a V t 1 _ (ix2 e l) (((win0 a 1).moved_iff _ _).mpr fun ax => (ix2 e l ax).isLt)).trans ?_
  have hi : (win0 a 1).index t = ![0, (tileOf (T (slot4 1))).toNat] := by subst hT; exact transform1 _ (grid0.coords t)
  refine congrArg (V (Proc.devRef .tc main_v1) : Vec F S64x1000064 .f32) (funext fun ax => Fin.ext ?_)
  match ax with
  | ⟨0, _⟩ =>
    blk_simp
    exact (congrArg (fun n => n * 64 + e.val) (congrFun hi (0 : Fin 2))).trans (by show 0 * 64 + e.val = e.val; omega)
  | ⟨1, _⟩ =>
    blk_simp
    exact (congrArg (fun n => n * 128 + l.val) (congrFun hi (1 : Fin 2))).trans h.symm

theorem in2_apply {T : IVec S4 32} (hT : words a = T) (e : Fin 64) (l : Fin 128) (n : Fin 1000064) (h : n.val = (tileOf (T (slot4 2))).toNat * 128 + l.val) :
    in2 a V t (ix2 e l) = (V (Proc.devRef .tc main_v1) : Vec F S64x1000064 .f32) (ix2 e n) := by
  refine (held_apply a V t 2 _ (ix2 e l) (((win0 a 2).moved_iff _ _).mpr fun ax => (ix2 e l ax).isLt)).trans ?_
  have hi : (win0 a 2).index t = ![0, (tileOf (T (slot4 2))).toNat] := by subst hT; exact transform2 _ (grid0.coords t)
  refine congrArg (V (Proc.devRef .tc main_v1) : Vec F S64x1000064 .f32) (funext fun ax => Fin.ext ?_)
  match ax with
  | ⟨0, _⟩ =>
    blk_simp
    exact (congrArg (fun n => n * 64 + e.val) (congrFun hi (0 : Fin 2))).trans (by show 0 * 64 + e.val = e.val; omega)
  | ⟨1, _⟩ =>
    blk_simp
    exact (congrArg (fun n => n * 128 + l.val) (congrFun hi (1 : Fin 2))).trans h.symm

theorem in3_apply {T : IVec S4 32} (hT : words a = T) (e : Fin 64) (l : Fin 128) (n : Fin 1000064) (h : n.val = (tileOf (T (slot4 3))).toNat * 128 + l.val) :
    in3 a V t (ix2 e l) = (V (Proc.devRef .tc main_v1) : Vec F S64x1000064 .f32) (ix2 e n) := by
  refine (held_apply a V t 3 _ (ix2 e l) (((win0 a 3).moved_iff _ _).mpr fun ax => (ix2 e l ax).isLt)).trans ?_
  have hi : (win0 a 3).index t = ![0, (tileOf (T (slot4 3))).toNat] := by subst hT; exact transform3 _ (grid0.coords t)
  refine congrArg (V (Proc.devRef .tc main_v1) : Vec F S64x1000064 .f32) (funext fun ax => Fin.ext ?_)
  match ax with
  | ⟨0, _⟩ =>
    blk_simp
    exact (congrArg (fun n => n * 64 + e.val) (congrFun hi (0 : Fin 2))).trans (by show 0 * 64 + e.val = e.val; omega)
  | ⟨1, _⟩ =>
    blk_simp
    exact (congrArg (fun n => n * 128 + l.val) (congrFun hi (1 : Fin 2))).trans h.symm

theorem index4 : ∀ t : Fin grid0.N, cc0_transform_4 (grid0.coords t) = ![0, 0, 0] := by decide +kernel
theorem index5 : ∀ t : Fin grid0.N, cc0_transform_5 (grid0.coords t) = ![0, 0] := by decide +kernel
theorem index6 : ∀ t : Fin grid0.N, cc0_transform_6 (grid0.coords t) = ![t.val, 0] := by decide +kernel
theorem index7 : ∀ t : Fin grid0.N, cc0_transform_7 (grid0.coords t) = ![0, t.val] := by decide +kernel

theorem extent6 : ∀ t : Fin grid0.N, (clip0_6 (grid0.coords t) 0).extent 32768 = min 32768 (1000000 - t.val * 32768)
    ∧ (clip0_6 (grid0.coords t) 1).extent 128 = 128 := by decide +kernel
theorem extent7 : ∀ t : Fin grid0.N, (clip0_7 (grid0.coords t) 0).extent 1 = 1
    ∧ (clip0_7 (grid0.coords t) 1).extent 32768 = min 32768 (1000000 - t.val * 32768) := by decide +kernel

theorem in4_apply (k : Fin 4) (e : Fin 64) (h : Fin 128) :
    in4 a V t (ix3 k e h) = (V (Proc.devRef .tc main_v3) : Vec F S4x64x128 .f32) (ix3 k e h) := by
  refine (held_apply a V t 4 _ (ix3 k e h) (((win0 a 4).moved_iff _ _).mpr fun ax => (ix3 k e h ax).isLt)).trans ?_
  have hi : (win0 a 4).index t = ![0, 0, 0] := index4 t
  refine congrArg (V (Proc.devRef .tc main_v3) : Vec F S4x64x128 .f32) (funext fun ax => Fin.ext ?_)
  match ax with
  | ⟨0, _⟩ =>
    blk_simp
    exact (congrArg (fun n => n * 4 + k.val) (congrFun hi (0 : Fin 3))).trans (by show 0 * 4 + k.val = k.val; omega)
  | ⟨1, _⟩ =>
    blk_simp
    exact (congrArg (fun n => n * 64 + e.val) (congrFun hi (1 : Fin 3))).trans (by show 0 * 64 + e.val = e.val; omega)
  | ⟨2, _⟩ =>
    blk_simp
    exact (congrArg (fun n => n * 128 + h.val) (congrFun hi (2 : Fin 3))).trans (by show 0 * 128 + h.val = h.val; omega)

theorem in5_apply (h : Fin 128) :
    in5 a V t (ix2 0 h) = (V (Proc.devRef .tc main_v4) : Vec F S1x128 .f32) (ix2 0 h) := by
  refine (held_apply a V t 5 _ (ix2 0 h) (((win0 a 5).moved_iff _ _).mpr fun ax => (ix2 (0 : Fin 1) h ax).isLt)).trans ?_
  have hi : (win0 a 5).index t = ![0, 0] := index5 t
  refine congrArg (V (Proc.devRef .tc main_v4) : Vec F S1x128 .f32) (funext fun ax => Fin.ext ?_)
  match ax with
  | ⟨0, _⟩ =>
    blk_simp
    exact (congrArg (fun n => n * 1 + 0) (congrFun hi (0 : Fin 2)))
  | ⟨1, _⟩ =>
    blk_simp
    exact (congrArg (fun n => n * 128 + h.val) (congrFun hi (1 : Fin 2))).trans (by show 0 * 128 + h.val = h.val; omega)

theorem in6_apply (d : Vec F S32768x128 .f32) (k : Fin 32768) (h : Fin 128) (n : Fin 1000000) (hn : n.val = t.val * 32768 + k.val) :
    in6 a V t d (ix2 k h) = (V (Proc.devRef .tc main_v2) : Vec F S1000000x128 .f32) (ix2 n h) := by
  have hb : n.val < 1000000 := n.isLt
  have hk : k.val < 32768 := k.isLt
  refine (held_apply a V t 6 _ (ix2 k h) (((win0 a 6).moved_iff _ _).mpr fun ax => ?_)).trans ?_
  · match ax with
    | ⟨0, _⟩ => exact Nat.lt_of_lt_of_le (by show k.val < min 32768 (1000000 - t.val * 32768); omega) (Nat.le_of_eq (extent6 t).1.symm)
    | ⟨1, _⟩ => exact Nat.lt_of_lt_of_le h.isLt (Nat.le_of_eq (extent6 t).2.symm)
  have hi : (win0 a 6).index t = ![t.val, 0] := index6 t
  refine congrArg (V (Proc.devRef .tc main_v2) : Vec F S1000000x128 .f32) (funext fun ax => Fin.ext ?_)
  match ax with
  | ⟨0, _⟩ =>
    blk_simp
    exact (congrArg (fun n => n * 32768 + k.val) (congrFun hi (0 : Fin 2))).trans hn.symm
  | ⟨1, _⟩ =>
    blk_simp
    exact (congrArg (fun n => n * 128 + h.val) (congrFun hi (1 : Fin 2))).trans (by show 0 * 128 + h.val = h.val; omega)

theorem in7_apply (d : Vec F S1x32768 .f32) (k : Fin 32768) (n : Fin 1000000) (hn : n.val = t.val * 32768 + k.val) :
    in7 a V t d (ix2 0 k) = (V (Proc.devRef .tc main_v5) : Vec F S1x1000000 .f32) (ix2 0 n) := by
  have hb : n.val < 1000000 := n.isLt
  have hk : k.val < 32768 := k.isLt
  refine (held_apply a V t 7 _ (ix2 0 k) (((win0 a 7).moved_iff _ _).mpr fun ax => ?_)).trans ?_
  · match ax with
    | ⟨0, _⟩ => exact Nat.lt_of_lt_of_le Nat.one_pos (Nat.le_of_eq (extent7 t).1.symm)
    | ⟨1, _⟩ => exact Nat.lt_of_lt_of_le (by show k.val < min 32768 (1000000 - t.val * 32768); omega) (Nat.le_of_eq (extent7 t).2.symm)
  have hi : (win0 a 7).index t = ![0, t.val] := index7 t
  refine congrArg (V (Proc.devRef .tc main_v5) : Vec F S1x1000000 .f32) (funext fun ax => Fin.ext ?_)
  match ax with
  | ⟨0, _⟩ =>
    blk_simp
    exact (congrArg (fun n => n * 1 + 0) (congrFun hi (0 : Fin 2)))
  | ⟨1, _⟩ =>
    blk_simp
    exact (congrArg (fun n => n * 32768 + k.val) (congrFun hi (1 : Fin 2))).trans hn.symm

end Cert.Pass1
-- ==== Proof.Hidden.lean ====
module

public import proofs.«01_k».proof.Proof.Step
public import proofs.«01_k».proof.Proof.Words

@[expose] public section

noncomputable section

namespace Cert.Pass1

open Cert.KernelIdeal Cert.KernelIdeal.Gen
open Idealize.ShloMosaic Idealize.ShloMosaic.Pointwise
open scoped BigOperators

/-- A sum that keeps one lane: the lane of a word's row in its tile. -/
theorem lane_sum {t : BitVec 32} (ht : t.toNat < 1000000) {w : BitVec 32} (hw : w = laneOf t) (f : Fin 128 → EReal) :
    (∑ l : Fin 128, Scalar.select (IntOp.cmpi .eq (BitVec.ofNat 32 l.val) w) (f l) 0) = f ⟨t.toNat % 128, Nat.mod_lt _ (by decide)⟩ := by
  obtain ⟨n, hn, rfl⟩ : ∃ n, n < 1000000 ∧ t = BitVec.ofNat 32 n := ⟨t.toNat, ht, by simp⟩
  have hnt : (BitVec.ofNat 32 n).toNat = n := by rw [BitVec.toNat_ofNat]; omega
  simp only [hnt]
  have hlt : n % 128 < 128 := Nat.mod_lt _ (by decide)
  rw [hw, laneOf_word hn, Finset.sum_eq_single (⟨n % 128, hlt⟩ : Fin 128)]
  · simp [IntOp.cmpi, Scalar.select]
  · intro l _ hl
    have hne : (BitVec.ofNat 32 l.val == BitVec.ofNat 32 (n % 128)) = false := by
      rw [beq_eq_false_iff_ne]
      intro e
      have e' := congrArg BitVec.toNat e
      simp only [BitVec.toNat_ofNat] at e'
      have hl' := l.isLt
      exact hl (Fin.ext (by show l.val = n % 128; omega))
    simp [IntOp.cmpi, Scalar.select, hne]
  · simp

/-- One context word's share of the hidden row: the table's row against a slice of the first weight. -/
def share (n : ℕ) (X : Vec Ideal S64x128 .f32) (W : Vec Ideal S1x64x128 .f32) (h : Fin 128) : EReal :=
  ∑ e : Fin 64, X (ix2 e ⟨n % 128, Nat.mod_lt _ (by decide)⟩) * W (ix3 0 e h)

theorem pay4_apply {t : BitVec 32} (hn : t.toNat < 1000000) (b : Row Ideal) (X : Vec Ideal S64x128 .f32) (W : Vec Ideal S1x64x128 .f32) (h : Fin 128) :
    k0_pay4 b (t : Elt Ideal .i32) X W (ix2 0 h) = b (ix2 0 h) + share t.toNat X W h := by
  pointwise [k0_pay4, share]
  exact congrArg (b (ix2 0 h) + ·) (Finset.sum_congr rfl fun e _ => congrArg (· * W (ix3 0 e h)) (lane_sum hn rfl fun l => X (ix2 e l)))

theorem pay5_apply {t t' : BitVec 32} (hn : t.toNat < 1000000) (hn' : t'.toNat < 1000000) (v : Row Ideal) (X X' : Vec Ideal S64x128 .f32) (W W' : Vec Ideal S1x64x128 .f32) (h : Fin 128)
    (r : BitVec 32) (hr : r = Scalar.remsi t 128#32) :
    k0_pay5 (iota .tc S64x128 32 [1] iota_S64x128_d1_w32) v r
        (Scalar.andi (Scalar.xori (Scalar.cmpi .slt r 0#32) 0#1) (Scalar.cmpi .ne r 0#32)) (Scalar.addi r 128#32) X W
        (t' : Elt Ideal .i32) X' W' (ix2 0 h) = v (ix2 0 h) + share t.toNat X W h + share t'.toNat X' W' h := by
  pointwise [k0_pay5, share]
  exact congrArg₂ (fun x y => v (ix2 0 h) + x + y) (Finset.sum_congr rfl fun e _ => congrArg (· * W (ix3 0 e h)) (lane_sum hn (by rw [hr]; rfl) fun l => X (ix2 e l)))
    (Finset.sum_congr rfl fun e _ => congrArg (· * W' (ix3 0 e h)) (lane_sum hn' rfl fun l => X' (ix2 e l)))

theorem pay6_apply {t : BitVec 32} (hn : t.toNat < 1000000) (v : Row Ideal) (X : Vec Ideal S64x128 .f32) (W : Vec Ideal S1x64x128 .f32) (h : Fin 128) :
    k0_pay6 (iota .tc S64x128 32 [1] iota_S64x128_d1_w32) v (t : Elt Ideal .i32) X W (ix2 0 h) = max (v (ix2 0 h) + share t.toNat X W h) 0 := by
  pointwise [k0_pay6, share]
  exact congrArg (fun x => max (v (ix2 0 h) + x) 0) (Finset.sum_congr rfl fun e _ => congrArg (· * W (ix3 0 e h)) (lane_sum hn rfl fun l => X (ix2 e l)))

/-- A slice of the first weight, as a block of its own. -/
theorem slice_apply (k : Fin 4) (inb : ∀ a, (![k.val, 0, 0] : Fin 3 → ℕ) a + S1x64x128.size a ≤ S4x64x128.size a) (W : Vec Ideal S4x64x128 .f32) (e : Fin 64) (h : Fin 128) :
    slice4 ![k.val, 0, 0] inb W (ix3 0 e h) = W (ix3 k e h) := by
  pointwise [slice4]

/-- The hidden row: the bias, the four context words' shares, and nothing below zero. -/
theorem hidden_apply {T : IVec S4 32} (hT : Known T) (X2 X3 X4 X5 : Vec Ideal S64x128 .f32) (W : Vec Ideal S4x64x128 .f32) (b : Row Ideal) (h : Fin 128) :
    hidden T X2 X3 X4 X5 W b (ix2 0 h)
      = max (b (ix2 0 h) + (∑ e : Fin 64, X2 (ix2 e ⟨(T (slot4 0)).toNat % 128, Nat.mod_lt _ (by decide)⟩) * W (ix3 0 e h))
          + (∑ e : Fin 64, X3 (ix2 e ⟨(T (slot4 1)).toNat % 128, Nat.mod_lt _ (by decide)⟩) * W (ix3 1 e h))
          + (∑ e : Fin 64, X4 (ix2 e ⟨(T (slot4 2)).toNat % 128, Nat.mod_lt _ (by decide)⟩) * W (ix3 2 e h))
          + (∑ e : Fin 64, X5 (ix2 e ⟨(T (slot4 3)).toNat % 128, Nat.mod_lt _ (by decide)⟩) * W (ix3 3 e h))) 0 := by
  unfold hidden
  refine (pay6_apply (hT _) _ _ _ h).trans ?_
  rw [pay5_apply (hT (slot4 1)) (hT (slot4 2)) _ _ _ _ _ h _ rfl, pay4_apply (hT _)]
  unfold share
  have e0 := fun e => slice_apply 0 inb_S4x64x128_S1x64x128_0_0_0 W e h
  have e1 := fun e => slice_apply 1 inb_S4x64x128_S1x64x128_1_0_0 W e h
  have e2 := fun e => slice_apply 2 inb_S4x64x128_S1x64x128_2_0_0 W e h
  have e3 := fun e => slice_apply 3 inb_S4x64x128_S1x64x128_3_0_0 W e h
  exact congrArg (max · 0) (congrArg₂ (· + ·) (congrArg₂ (· + ·) (congrArg₂ (· + ·) (congrArg (b (ix2 0 h) + ·)
    (Finset.sum_congr rfl fun e _ => congrArg _ (e0 e))) (Finset.sum_congr rfl fun e _ => congrArg _ (e1 e)))
    (Finset.sum_congr rfl fun e _ => congrArg _ (e2 e))) (Finset.sum_congr rfl fun e _ => congrArg _ (e3 e)))

end Cert.Pass1

end
-- ==== Proof.Ref.lean ====
module

public import proofs.«01_k».proof.Proof.Words
public import proofs.«01_k».proof.Proof.Step
public import Idealize.ShloMosaic.Lib.ReduceAll
public import proofs.«01_k».proof.Proof.Gen.ReferenceIdeal.Run
public import Idealize.ShloMosaic.Lib.Pointwise
public import Idealize.ShloMosaic.Lib.IdealHost
public import Idealize.ShloMosaic.Lib.Routing.Ops

@[expose] public section

/-! # What the reference computes -/

noncomputable section

namespace Cert.Reference

open Idealize Idealize.ShloMosaic Idealize.ShloMosaic.Pointwise
open Cert.ReferenceIdeal Cert.ReferenceIdeal.Value

variable {F : FTy → Type} [FloatOps F]

/-- The context words with jax's wrap of negative ones. -/
def wrapped (T : IVec S4 32) : IVec S4x1 32 :=
  broadcastInDim S4x1 ![0] Gen.bcast_S4_S4x1_0
    (select (cmpi .slt T (broadcastInDim S4 ![] Gen.bcast_S_S4 (constantI S_ 32 0#32)))
      (addi T (broadcastInDim S4 ![] Gen.bcast_S_S4 (constantI S_ 32 1000000#32))) T)

/-- Whether each word is inside the table. -/
def inside (T : IVec S4 32) : IVec S4 1 :=
  Host.reduce IntOp.andi
    (andi (cmpi .sge (wrapped T) (broadcastInDim S4x1 ![] Gen.bcast_S_S4x1 (constantI S_ 32 0#32)))
      (cmpi .sle (wrapped T) (broadcastInDim S4x1 ![0, 1] Gen.bcast_S1x1_S4x1_0_1 (broadcastInDim S1x1 ![1] Gen.bcast_S1_S1x1_1 (constantI S1 32 999999#32)))))
    (constantI S_ 1 1#1) Gen.reducesTo_S4x1_S4_d1 Gen.h_S_

/-- The words' rows of the table. -/
def embeds (T : IVec S4 32) (tab : Vec F S1000000x64 .f32) : Vec F S4x64 .f32 :=
  select (broadcastInDim S4x64 ![0] Gen.bcast_S4_S4x64_0 (inside T))
    (Host.gather gather_S1000000x64_S4x1_S4x64_1_0_n_n_0_1_164 tab (wrapped T))
    (broadcastInDim S4x64 ![] Gen.bcast_S_S4x64 (constant S_ FTy.f32 2143289344#32))

/-- The hidden row. -/
def hidden (E : Vec F S4x64 .f32) (W1 : Vec F S256x128 .f32) (b1 : Vec F S128 .f32) : Vec F S1x128 .f32 :=
  maximumf (addf (Host.dotGeneral dot_S1x256_S256x128_S1x128_1_0_0_1_n_n none (shapeCast S1x256 E Gen.shapeCasts_S4x64_S1x256) W1)
    (broadcastInDim S1x128 ![1] Gen.bcast_S128_S1x128_1 b1)) (broadcastInDim S1x128 ![] Gen.bcast_S_S1x128 (constant S_ FTy.f32 0#32))

/-- The logits. -/
def logits (h : Vec F S1x128 .f32) (W2 : Vec F S128x1000000 .f32) (b2 : Vec F S1000000 .f32) : Vec F S1x1000000 .f32 :=
  addf (Host.dotGeneral dot_S1x128_S128x1000000_S1x1000000_1_0_0_1_n_n none h W2) (broadcastInDim S1x1000000 ![1] Gen.bcast_S1000000_S1x1000000_1 b2)

/-- The logits less the largest of them. -/
def shifted (x : Vec F S1x1000000 .f32) : Vec F S1x1000000 .f32 :=
  subf x (broadcastInDim S1x1000000 ![0, 1] Gen.bcast_S1x1_S1x1000000_0_1 (broadcastInDim S1x1 ![0] Gen.bcast_S1_S1x1_0
    (maximumf (broadcastInDim S1 ![] Gen.bcast_S_S1 (constant S_ FTy.f32 4286578688#32))
      (Host.reduce FloatOps.maximumf x (constant S_ FTy.f32 4286578688#32) Gen.reducesTo_S1x1000000_S1_d1 Gen.h_S_))))

/-- The logarithm of the weights' sum taken off. -/
def scaled (z : Vec F S1x1000000 .f32) : Vec F S1x1000000 .f32 :=
  subf z (broadcastInDim S1x1000000 ![0, 1] Gen.bcast_S1x1_S1x1000000_0_1 (Host.log (broadcastInDim S1x1 ![0] Gen.bcast_S1_S1x1_0
    (Host.reduceAdd (Host.exp z) (constant S_ FTy.f32 0#32) Gen.reducesTo_S1x1000000_S1_d1 Gen.h_S_))))

theorem res_eq (m : (ℓ : Loc nD τ sig) → Buf (Elt F) ℓ) (c : Dev nD) :
    res_main_v10 m c = scaled (shifted (logits (hidden (embeds (m (c.tc.loc main_arg0)) (m (c.tc.loc main_arg1))) (m (c.tc.loc main_arg2)) (m (c.tc.loc main_arg3)))
      (m (c.tc.loc main_arg4)) (m (c.tc.loc main_arg5)))) := rfl

end Cert.Reference

namespace Cert.Reference

open Idealize Idealize.ShloMosaic Idealize.ShloMosaic.Pointwise
open Cert.ReferenceIdeal Cert.ReferenceIdeal.Value

theorem logits_apply (h : Vec Ideal S1x128 .f32) (W2 : Vec Ideal S128x1000000 .f32) (b2 : Vec Ideal S1000000 .f32) (n : Fin 1000000) :
    logits h W2 b2 (ix2 0 n) = (∑ k : Fin 128, h (ix2 0 k) * W2 (ix2 k n)) + b2 (ix1 n) := by
  pointwise [logits]

theorem hidden_apply (E : Vec Ideal S4x64 .f32) (W1 : Vec Ideal S256x128 .f32) (b1 : Vec Ideal S128 .f32) (h : Fin 128) :
    hidden E W1 b1 (ix2 0 h)
      = max ((∑ x : Fin 256, E (ix2 ⟨x.val / 64, by have := x.isLt; omega⟩ ⟨x.val % 64, by omega⟩) * W1 (ix2 x h)) + b1 (ix1 h)) 0 := by
  pointwise [hidden]

/-- The largest entry of a row. -/
theorem rowMax_apply {N : ℕ} {u : Shape} (x : FVec Ideal ⟨2, ![1, N]⟩ .f32) (h : (⟨2, ![1, N]⟩ : Shape).ReducesTo [1] ⟨1, ![1]⟩) (hu : 0 < u.numel) :
    (Host.reduce FloatOps.maximumf x (constant u FTy.f32 4286578688#32) h hu : FVec Ideal ⟨1, ![1]⟩ .f32) (ix1 0) = Finset.univ.sup fun k : Fin N => x (ix2 0 k) := by
  pointwise []
  rw [Cert.Pass1.word_bot]
  rfl

/-- A row less the larger of a number and the least one. -/
def less (x : FVec Ideal S1x1000000 .f32) (y : FVec Ideal S1 .f32) : FVec Ideal S1x1000000 .f32 :=
  subf x (broadcastInDim S1x1000000 ![0, 1] Gen.bcast_S1x1_S1x1000000_0_1 (broadcastInDim S1x1 ![0] Gen.bcast_S1_S1x1_0
    (maximumf (broadcastInDim S1 ![] Gen.bcast_S_S1 (constant S_ FTy.f32 4286578688#32)) y)))

theorem less_apply (x : FVec Ideal S1x1000000 .f32) (y : FVec Ideal S1 .f32) (n : Fin 1000000) : less x y (ix2 0 n) = x (ix2 0 n) - y (ix1 0) := by
  pointwise [less]
  rw [Cert.Pass1.word_bot, max_eq_right bot_le]

theorem shifted_apply (x : Vec Ideal S1x1000000 .f32) (n : Fin 1000000) :
    shifted x (ix2 0 n) = x (ix2 0 n) - Finset.univ.sup fun k : Fin 1000000 => x (ix2 0 k) :=
  (less_apply x _ n).trans (congrArg (x (ix2 0 n) - ·) (rowMax_apply x _ _))

theorem scaled_apply (z : Vec Ideal S1x1000000 .f32) (n : Fin 1000000) :
    scaled z (ix2 0 n) = z (ix2 0 n) - Ideal.log (∑ k : Fin 1000000, Ideal.exp (z (ix2 0 k))) := by
  pointwise [scaled]

theorem wrapped_apply {T : IVec S4 32} (hT : Cert.Pass1.Known T) (k : Fin 4) : wrapped T (ix2 k 0) = T (ix1 k) := by
  have ht := hT (ix1 k)
  pointwise [wrapped]
  generalize T (ix1 k) = t at ht ⊢
  have hs : t.slt 0#32 = false := by
    rw [BitVec.slt_eq_decide, decide_eq_false_iff_not, BitVec.toInt_eq_toNat_of_lt (by omega)]
    simp
  simp [IntOp.cmpi, Scalar.select, hs]

theorem inside_apply {T : IVec S4 32} (hT : Cert.Pass1.Known T) (k : Fin 4) : inside T (ix1 k) = 1#1 := by
  unfold inside
  refine Host.reduce_andi_one _ _ _ _ _ rfl fun i' => ?_
  obtain ⟨i, j, rfl⟩ : ∃ (i : Fin 4) (j : Fin 1), ix2 i j = i' := ⟨i' 0, i' 1, funext fun ax => match ax with | ⟨0, _⟩ => rfl | ⟨1, _⟩ => rfl⟩
  obtain rfl : j = 0 := Subsingleton.elim _ _
  have ht := hT (ix1 i)
  pointwise []
  rw [wrapped_apply hT]
  generalize T (ix1 i) = t at ht ⊢
  have hs : BitVec.sle 0#32 t = true := by
    rw [BitVec.sle_eq_decide, decide_eq_true_iff, BitVec.toInt_eq_toNat_of_lt (x := t) (by omega)]
    simp
  have hl : t.sle 999999#32 = true := by
    rw [BitVec.sle_eq_decide, decide_eq_true_iff, BitVec.toInt_eq_toNat_of_lt (x := t) (by omega)]
    show (t.toNat : ℤ) ≤ 999999
    omega
  simp [IntOp.cmpi, IntOp.andi, hs, hl]

theorem embeds_apply {T : IVec S4 32} (hT : Cert.Pass1.Known T) (tab : Vec Ideal S1000000x64 .f32) (k : Fin 4) (e : Fin 64) :
    embeds T tab (ix2 k e) = tab (ix2 ⟨(T (ix1 k)).toNat, hT _⟩ e) := by
  have hg : Host.gather gather_S1000000x64_S4x1_S4x64_1_0_n_n_0_1_164 tab (wrapped T) (ix2 k e) = tab (ix2 ⟨(T (ix1 k)).toNat, hT _⟩ e) :=
    Routing.gather_row _ rfl rfl rfl rfl rfl tab (wrapped T) k e ⟨(T (ix1 k)).toNat, hT _⟩ ((wrapped_apply hT k).trans (by simp)) (by decide)
  pointwise [embeds]
  rw [inside_apply hT, hg]
  rfl

end Cert.Reference
-- ==== Proof.Value.lean ====
module

public import proofs.«01_k».proof.Proof.Sound
public import proofs.«01_k».proof.Proof.Host
public import proofs.«01_k».proof.Proof.Ins
public import proofs.«01_k».proof.Proof.Hidden
public import proofs.«01_k».proof.Proof.Ref

@[expose] public section

/-! # The program's result is the reference's, at known words and real weights -/

noncomputable section

namespace Cert.Online

open Idealize Idealize.ShloMosaic
open scoped BigOperators

/-- The normalised value, of what was held after the values and of the values themselves: those past the `N`-th weigh nothing. -/
theorem Held.normalised {y : ℕ → EReal} {n N : ℕ} {m s x : EReal} (h : Held y n m s) (he : ∀ c, Entry (y c)) (hN : N ≤ n) (h0 : 0 < N)
    (hr : IsReal (y 0)) (hb : ∀ c, N ≤ c → y c = ⊥) (hx : IsReal x) :
    x - (m + Ideal.log s) = (x - Finset.univ.sup fun k : Fin N => y k.val)
      - Ideal.log (∑ k : Fin N, Ideal.exp (y k.val - Finset.univ.sup fun k : Fin N => y k.val)) := by
  have hμ := largest_sup h0 y
  have hμn : Largest y n (Finset.univ.sup fun k : Fin N => y k.val) := by
    refine ⟨fun c _ => ?_, hμ.attained.imp fun c hc => ⟨hc.1.trans_le hN, hc.2⟩⟩
    rcases Nat.lt_or_ge c N with e | e
    · exact hμ.le c e
    · rw [hb c e]; exact bot_le
  have hB := Held.block hμ ⟨0, h0, hr⟩ he
  rw [← h.largest.unique hμn] at hB ⊢
  rw [normalise h hx he, h.sum, hB.sum]
  have e : ∑ c ∈ Finset.range N, weight (y c) = ∑ c ∈ Finset.range n, weight (y c) :=
    Finset.sum_subset (Finset.range_subset_range.mpr hN) fun c _ hc => by
      rw [hb c (Nat.le_of_not_lt fun h => hc (Finset.mem_range.mpr h)), weight_bot]
  rw [e]

end Cert.Online

namespace Cert.Pass1

open Idealize Idealize.ShloMosaic Idealize.ShloMosaic.Pointwise
open Cert.KernelIdeal Cert.KernelIdeal.Gen Cert.Online
open scoped BigOperators

variable (m : (ℓ : Loc nD τ sig) → Buf (Elt Ideal) ℓ)

/-- The arguments at launch, at their printed types. -/
abbrev aWords : IVec S4 32 := arg m main_arg0
abbrev aTable : Vec Ideal S1000000x64 .f32 := arg m main_arg1
abbrev aW1 : Vec Ideal S256x128 .f32 := arg m main_arg2
abbrev ab1 : Vec Ideal S128 .f32 := arg m main_arg3
abbrev aW2 : Vec Ideal S128x1000000 .f32 := arg m main_arg4
abbrev ab2 : Vec Ideal S1000000 .f32 := arg m main_arg5

/-- Known words and real weights. -/
structure Reals : Prop where
  known : Known (aWords m)
  table : ∀ j, IsReal (aTable m j)
  W1 : ∀ j, IsReal (aW1 m j)
  b1 : ∀ j, IsReal (ab1 m j)
  W2 : ∀ j, IsReal (aW2 m j)
  b2 : ∀ j, IsReal (ab2 m j)

/-- The hidden row and the logits, as the reference has them. -/
def row : Row Ideal := Reference.hidden (Reference.embeds (aWords m) (aTable m)) (aW1 m) (ab1 m)
def scores : Vec Ideal S1x1000000 .f32 := Reference.logits (row m) (aW2 m) (ab2 m)
/-- The logits, and the least number past the last column. -/
def score (n : ℕ) : EReal := if h : n < 1000000 then scores m (ix2 0 ⟨n, h⟩) else ⊥

theorem score_of (n : Fin 1000000) : score m n.val = scores m (ix2 0 n) := dif_pos n.isLt

/-- The place of a word's entry in the concatenated context. -/
abbrev place (k : Fin 4) (e : Fin 64) : Fin 256 := ⟨k.val * 64 + e.val, by omega⟩

/-- A sum over the concatenated context, one word's share at a time. -/
theorem sum_context (f : Fin 256 → EReal) :
    ∑ x, f x = (∑ e : Fin 64, f (place 0 e)) + (∑ e : Fin 64, f (place 1 e)) + (∑ e : Fin 64, f (place 2 e)) + (∑ e : Fin 64, f (place 3 e)) := by
  rw [← (finProdFinEquiv (m := 4) (n := 64)).sum_comp f, Fintype.sum_prod_type, Fin.sum_univ_four]
  refine congrArg₂ (· + ·) (congrArg₂ (· + ·) (congrArg₂ (· + ·) ?_ ?_) ?_) ?_ <;>
    exact Finset.sum_congr rfl fun e _ => congrArg f (Fin.ext (by show e.val + 64 * _ = _ * 64 + e.val; simp; try omega))

variable {m}

/-- An entry of the concatenated context against the first weight. -/
def product (hR : Reals m) (h : Fin 128) (x : Fin 256) : EReal :=
  aTable m (ix2 ⟨(aWords m (ix1 ⟨x.val / 64, by have := x.isLt; omega⟩)).toNat, hR.known _⟩ ⟨x.val % 64, by omega⟩) * aW1 m (ix2 x h)

theorem row_apply (hR : Reals m) (h : Fin 128) : row m (ix2 0 h) = max ((∑ x : Fin 256, product hR h x) + ab1 m (ix1 h)) 0 := by
  refine (Reference.hidden_apply _ (aW1 m) (ab1 m) h).trans ?_
  exact congrArg (fun z => max (z + ab1 m (ix1 h)) 0) (Finset.sum_congr rfl fun x _ => congrArg (· * aW1 m (ix2 x h)) (Reference.embeds_apply hR.known (aTable m) _ _))

theorem row_real (hR : Reals m) (h : Fin 128) : IsReal (row m (ix2 0 h)) := by
  rw [row_apply hR]
  exact ((IsReal.sum _ fun x => (hR.table _).mul (hR.W1 _)).add (hR.b1 _)).max .zero

theorem scores_real (hR : Reals m) (n : Fin 1000000) : IsReal (scores m (ix2 0 n)) := by
  unfold scores
  rw [Reference.logits_apply]
  exact (IsReal.sum _ fun k => (row_real hR k).mul (hR.W2 _)).add (hR.b2 _)

theorem tile_lane {t : BitVec 32} (ht : t.toNat < 1000000) : t.toNat = (tileOf t).toNat * 128 + t.toNat % 128 := by
  have hw : tileOf t = BitVec.ofNat 32 (t.toNat / 128) := by
    have := tileOf_word ht
    rwa [BitVec.ofNat_toNat, BitVec.setWidth_eq] at this
  rw [hw, BitVec.toNat_ofNat, Nat.mod_eq_of_lt (by omega)]
  omega

/-- One word's share of the hidden row, from its block of the table and the first weight. -/
theorem share_eq (hR : Reals m) (t : Fin grid0.N) (k : Fin 4) (X : Vec Ideal S64x128 .f32)
    (hX : ∀ (e : Fin 64) (l : Fin 128) (n : Fin 1000064), n.val = (tileOf (aWords m (slot4 k))).toNat * 128 + l.val →
      X (ix2 e l) = (Vat m (Proc.devRef .tc main_v1) : Vec Ideal S64x1000064 .f32) (ix2 e n)) (h : Fin 128) :
    (∑ e : Fin 64, X (ix2 e ⟨(aWords m (slot4 k)).toNat % 128, Nat.mod_lt _ (by decide)⟩)
        * in4 (Cert.Pass1.table (aWords m) hR.known) (Vat m) t (ix3 k e h))
      = ∑ e : Fin 64, product hR h (place k e) := by
  refine Finset.sum_congr rfl fun e _ => ?_
  have ht := hR.known (slot4 k)
  have hs : (ix1 ⟨(k.val * 64 + e.val) / 64, by omega⟩ : S4.Idx) = slot4 k := funext fun ax => Fin.ext (by
    obtain rfl : ax = 0 := Subsingleton.elim _ _
    show (k.val * 64 + e.val) / 64 = k.val
    omega)
  rw [hX e _ ⟨(aWords m (slot4 k)).toNat, by omega⟩ (tile_lane ht), table_apply m e ⟨(aWords m (slot4 k)).toNat, ht⟩ _ rfl, in4_apply, W1_apply]
  unfold product
  refine congrArg (· * aW1 m (ix2 (place k e) h)) (congrArg (aTable m) ?_)
  refine congrArg₂ ix2 (Fin.ext (congrArg (fun i => (aWords m i).toNat) hs.symm)) (Fin.ext ?_)
  show e.val = (k.val * 64 + e.val) % 64
  omega

/-- The bias and the shares, in the two orders of summation. -/
theorem bias_last {b b' x y z w x' y' z' w' : EReal} (hb : b = b') (hx : x = x') (hy : y = y') (hz : z = z') (hw : w = w') :
    max (b + x + y + z + w) 0 = max (x' + y' + z' + w' + b') 0 := by
  subst hb hx hy hz hw
  rw [add_comm (x + y + z + w) b, ← add_assoc, ← add_assoc, ← add_assoc]

theorem row_eq (hR : Reals m) (t : Fin grid0.N) (X2 X3 X4 X5 : Vec Ideal S64x128 .f32) (W : Vec Ideal S4x64x128 .f32) (b : Row Ideal)
    (h2 : X2 = in0 (Cert.Pass1.table (aWords m) hR.known) (Vat m) t) (h3 : X3 = in1 (Cert.Pass1.table (aWords m) hR.known) (Vat m) t)
    (h4 : X4 = in2 (Cert.Pass1.table (aWords m) hR.known) (Vat m) t) (h5 : X5 = in3 (Cert.Pass1.table (aWords m) hR.known) (Vat m) t)
    (hW : W = in4 (Cert.Pass1.table (aWords m) hR.known) (Vat m) t) (hb : b = in5 (Cert.Pass1.table (aWords m) hR.known) (Vat m) t) :
    hidden (aWords m) X2 X3 X4 X5 W b = row m := by
  funext j
  obtain ⟨h, rfl⟩ : ∃ h : Fin 128, ix2 0 h = j := ⟨j 1, funext fun ax => match ax with | ⟨0, _⟩ => Subsingleton.elim (α := Fin 1) _ _ | ⟨1, _⟩ => rfl⟩
  rw [row_apply hR, sum_context, hidden_apply hR.known]
  subst hW
  refine bias_last ?_ (share_eq hR t 0 X2 (fun e l n e' => ?_) h) (share_eq hR t 1 X3 (fun e l n e' => ?_) h)
    (share_eq hR t 2 X4 (fun e l n e' => ?_) h) (share_eq hR t 3 X5 (fun e l n e' => ?_) h)
  · rw [hb, in5_apply, b1_apply]
  · rw [h2]; exact in0_apply _ _ t rfl e l n e'
  · rw [h3]; exact in1_apply _ _ t rfl e l n e'
  · rw [h4]; exact in2_apply _ _ t rfl e l n e'
  · rw [h5]; exact in3_apply _ _ t rfl e l n e'

theorem fits (hR : Reals m) : Fits (Cert.Pass1.table (aWords m) hR.known) (Vat m) (row m) (score m) where
  hid t := row_eq hR t _ _ _ _ _ _ rfl rfl rfl rfl rfl rfl
  inside t d6 d7 k hk := by
    rw [logits_apply, score_of m ⟨t.val * 32768 + k.val, hk⟩]
    unfold scores
    rw [Reference.logits_apply, in7_apply _ _ t d7 k ⟨_, hk⟩ rfl, b2_apply]
    refine congrArg (· + ab2 m (ix1 ⟨t.val * 32768 + k.val, hk⟩)) (Finset.sum_congr rfl fun h _ => congrArg (row m (ix2 0 h) * ·) ?_)
    rw [in6_apply _ _ t d6 k h ⟨_, hk⟩ rfl, W2_apply]
  outside n hn := dif_neg (by omega)
  real n hn := (score_of m ⟨n, hn⟩).symm ▸ scores_real hR ⟨n, hn⟩

/-- What the two calls leave is the reference's logarithm of the softmax. -/
theorem value (hR : Reals m) (G8 : Vec Ideal S1x1000000 .f32) (G9 : Vec Ideal S8x128 .f32) (h : Out0 (online (row m) (score m)) G8 G9) :
    normalised G8 G9 = Reference.scaled (Reference.shifted (scores m)) := by
  funext j
  obtain ⟨n, rfl⟩ : ∃ n : Fin 1000000, ix2 0 n = j := ⟨j 1, funext fun ax => match ax with | ⟨0, _⟩ => Subsingleton.elim (α := Fin 1) _ _ | ⟨1, _⟩ => rfl⟩
  obtain ⟨M, S, hM, hS, H⟩ := h.stats
  obtain ⟨t, X, k, hX, hn, hG⟩ := h.logits (ix2 0 n)
  obtain ⟨k, rfl⟩ : ∃ k' : Fin 32768, ix2 0 k' = k := ⟨k 1, funext fun ax => match ax with | ⟨0, _⟩ => Subsingleton.elim (α := Fin 1) _ _ | ⟨1, _⟩ => rfl⟩
  have hn' : n.val = t.val * 32768 + k.val := hn
  have e8 : G8 (ix2 0 n) = scores m (ix2 0 n) := by
    rw [hG, hX k (hn' ▸ n.isLt), ← hn', score_of]
  have hF := fits hR
  unfold normalised
  rw [normalised_apply, Reference.scaled_apply]
  simp only [Reference.shifted_apply, hM, hS, Finset.sup_const Finset.univ_nonempty, e8]
  have hN := H.normalised (x := scores m (ix2 0 n)) (N := 1000000) hF.entry (by omega) (by omega) (hF.real 0 (by omega)) hF.outside (scores_real hR n)
  simp only [score_of] at hN
  exact hN

end Cert.Pass1
-- ==== Proof.Finite.lean ====
module

public import proofs.«01_k».proof.Proof.Value
public import proofs.«01_k».proof.Proof.Frames

@[expose] public section

/-! # What the second precondition says -/

noncomputable section

namespace Cert.Pass1

open Idealize Idealize.ShloMosaic
open Cert.KernelIdeal Cert.KernelIdeal.Gen Cert.Online

theorem finite_facts : Cert.Pre_known_words_finite_weights.Facts := ⟨by decide, by decide, by decide, by decide, by decide, by decide⟩

theorem and_one (a b : BitVec 1) : IntOp.andi a b = 1#1 ↔ a = 1#1 ∧ b = 1#1 := by revert a b; decide

theorem of_bool_one {p : Prop} [Decidable p] (h : BitVec.ofBool (decide p) = 1#1) : p := by
  by_contra hp
  rw [decide_eq_false hp] at h
  exact absurd h (by decide)

theorem real_of_cmp {x : EReal} (h : IntOp.andi (Ideal.cmp .ogt x (Ideal.ofBits .f32 0xFF800000#32)) (Ideal.cmp .olt x (Ideal.ofBits .f32 0x7F800000#32)) = 1#1) : IsReal x := by
  rw [and_one, word_bot, word_top] at h
  exact IsReal.of_lt (of_bool_one h.1) (of_bool_one h.2)

variable {m : (ℓ : Loc nD τ sig) → Buf (Elt Ideal) ℓ}

theorem reals_of_pre (h : letI := finite_facts; Cert.Pre_KernelIdeal_known_words_finite_weights m) : Reals m := by
  obtain ⟨h0, h1, h2, h3, h4, h5⟩ := h 0
  refine ⟨fun k => ?_, fun j => ?_, fun j => ?_, fun j => ?_, fun j => ?_, fun j => ?_⟩
  · have pre := congrFun h0 k
    simp only [Cert.Pre_known_words_finite_weights.fn, Cert.Pre_known_words_finite_weights.fn_part1, constantI, broadcastInDim, cmpi, andi, and_one] at pre
    exact lt_of_cmpi pre.1 pre.2
  · exact real_of_cmp (congrFun h1 j)
  · exact real_of_cmp (congrFun h2 j)
  · exact real_of_cmp (congrFun h3 j)
  · exact real_of_cmp (congrFun h4 j)
  · exact real_of_cmp (congrFun h5 j)

end Cert.Pass1

namespace Cert.Proof

open Idealize.ShloMosaic Idealize.SL.Sem
open Cert.Pass1

theorem frame_KernelIdeal_finite : Cert.quiescent_KernelIdeal_pre_known_words_finite_weights (hKernelIdeal := Cert.KernelIdeal.Gen.facts)
    (hPre_known_words_finite_weights := finite_facts) :=
  fun m g h => frame_known m (reals_of_pre h).known g

theorem frame_ReferenceIdeal_finite : Cert.quiescent_ReferenceIdeal_pre_known_words_finite_weights (hReferenceIdeal := Cert.ReferenceIdeal.Gen.facts)
    (hPre_known_words_finite_weights := finite_facts) :=
  fun m g _ => frame_ReferenceIdeal m g trivial

/-- The reference's result, of the arguments that both programs are launched with. -/
theorem reference_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.ReferenceIdeal.nD)
    (h0 : m' (c.tc.loc Cert.ReferenceIdeal.main_arg0) = aWords m) (h1 : m' (c.tc.loc Cert.ReferenceIdeal.main_arg1) = aTable m)
    (h2 : m' (c.tc.loc Cert.ReferenceIdeal.main_arg2) = aW1 m) (h3 : m' (c.tc.loc Cert.ReferenceIdeal.main_arg3) = ab1 m)
    (h4 : m' (c.tc.loc Cert.ReferenceIdeal.main_arg4) = aW2 m) (h5 : m' (c.tc.loc Cert.ReferenceIdeal.main_arg5) = ab2 m) :
    Cert.ReferenceIdeal.Value.res_main_v10 m' c = Cert.Reference.scaled (Cert.Reference.shifted (scores m)) := by
  rw [Cert.Reference.res_eq, h0, h1, h2, h3, h4, h5]
  rfl

theorem algebraic : Cert.algebraic_KernelIdeal_ReferenceIdeal_pre_known_words_finite_weights (hKernelIdeal := Cert.KernelIdeal.Gen.facts)
    (hReferenceIdeal := Cert.ReferenceIdeal.Gen.facts) (hPre_known_words_finite_weights := finite_facts) := by
  intro m g m' g' hpre harg
  have hR := reals_of_pre hpre
  refine ⟨fun _ => Cert.Reference.scaled (Cert.Reference.shifted (scores m)), ?_, ?_⟩
  · refine (θ_run Cert.KernelIdeal.defs _ _).mono (fun r h c => ?_)
      (run_main (online (row m) (score m)) (table _ hR.known) m (online_sound (fits hR)) rfl g)
    obtain ⟨⟨o, ho, hv⟩, ha, _⟩ := h
    obtain rfl : c = 0 := Subsingleton.elim _ _
    exact ⟨hv.trans (value hR o.1 o.2 ho), ha 0⟩
  · refine (θ_run Cert.ReferenceIdeal.defs _ _).mono (fun r h c => ?_) (Cert.ReferenceIdeal.Value.run m' g')
    obtain ⟨h0, h1, h2, h3, h4, h5⟩ := harg 0
    obtain rfl : c = 0 := Subsingleton.elim _ _
    exact ⟨(h 0).1.trans (reference_eq m m' 0 h0 h1 h2 h3 h4 h5), (h 0).2⟩

end Cert.Proof
-- ==== Proof.lean ====
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Run
public import proofs.«01_k».proof.Proof.Words
public import proofs.«01_k».proof.Proof.Twin
public import proofs.«01_k».proof.Proof.Finite

@[expose] public section

noncomputable section

namespace Cert.Proof

open Idealize.ShloMosaic Idealize.SL.Sem

/-- Everything that the certificate claims. -/
theorem claim : Cert.Claim :=
  ⟨Cert.Kernel.Gen.facts, Cert.KernelIdeal.Gen.facts, Cert.ReferenceIdeal.Gen.facts, words_facts, Cert.Pass1.finite_facts,
    Cert.Twin.frame_Kernel, frame_KernelIdeal, frame_KernelIdeal_finite, frame_ReferenceIdeal, frame_ReferenceIdeal_finite, trivial, algebraic⟩

end Cert.Proof

end
